-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x8192x5120 : Shape := ⟨3, ![1, 8192, 5120]⟩
abbrev S3456x5120 : Shape := ⟨2, ![3456, 5120]⟩
abbrev S27x40 : Shape := ⟨2, ![27, 40]⟩
abbrev S3456 : Shape := ⟨1, ![3456]⟩
abbrev S_ : Shape := ⟨0, ![]⟩

class Facts : Prop where
  bcast_S_S1x8192x5120 : S_.BroadcastsInDim S1x8192x5120 (![] : Fin 0 → Fin S1x8192x5120.rank)

variable [Facts]

def fn {F : FTy → Type} [FloatOps F] (main_arg0 : FVec F S1x8192x5120 .bf16) (main_arg1 : FVec F S3456x5120 .fp8e4m3) (main_arg2 : FVec F S27x40 .f32) (main_arg3 : FVec F S3456 .f32) : IVec S1x8192x5120 1 :=
  let main_v0 : FVec F S1x8192x5120 .bf16 := Host.absf main_arg0
  let main_cst : FVec F S_ .bf16 := constant S_ .bf16 0x7F7F#16
  let main_v1 : FVec F S1x8192x5120 .bf16 := broadcastInDim S1x8192x5120 ![] bcast_S_S1x8192x5120 main_cst
  let main_v2 : IVec S1x8192x5120 1 := cmpf .ole main_v0 main_v1
  main_v2
-- ==== Kernel.lean ====
abbrev S1x8192x5120 : Shape := ⟨3, ![1, 8192, 5120]⟩
abbrev S3456x5120 : Shape := ⟨2, ![3456, 5120]⟩
abbrev S27x40 : Shape := ⟨2, ![27, 40]⟩
abbrev S3456 : Shape := ⟨1, ![3456]⟩
abbrev S8192x5120 : Shape := ⟨2, ![8192, 5120]⟩
abbrev S1x3456 : Shape := ⟨2, ![1, 3456]⟩
abbrev S8192x3456 : Shape := ⟨2, ![8192, 3456]⟩
abbrev S8192x40 : Shape := ⟨2, ![8192, 40]⟩
abbrev S256x5120 : Shape := ⟨2, ![256, 5120]⟩
abbrev S256x3456 : Shape := ⟨2, ![256, 3456]⟩
abbrev S256x40 : Shape := ⟨2, ![256, 40]⟩
abbrev S3456x256 : Shape := ⟨2, ![3456, 256]⟩
abbrev S128x256 : Shape := ⟨2, ![128, 256]⟩
abbrev S256x128 : Shape := ⟨2, ![256, 128]⟩
abbrev S256 : Shape := ⟨1, ![256]⟩
abbrev S256x1 : Shape := ⟨2, ![256, 1]⟩
abbrev S3456x128 : Shape := ⟨2, ![3456, 128]⟩
abbrev S1x256 : Shape := ⟨2, ![1, 256]⟩
abbrev S1x1 : Shape := ⟨2, ![1, 1]⟩

abbrev nBuf : Space → Nat
  | .hbm => 9
  | .vmem => 12
  | .smem => 1
  | _ => 0

abbrev bufTy : (tb : Table) → Fin (tcTables nBuf tb) → BufTy
  | .hbm, ⟨0, _⟩ => ⟨S1x8192x5120, .bf16⟩
  | .hbm, ⟨1, _⟩ => ⟨S3456x5120, .fp8e4m3⟩
  | .hbm, ⟨2, _⟩ => ⟨S27x40, .f32⟩
  | .hbm, ⟨3, _⟩ => ⟨S3456, .f32⟩
  | .hbm, ⟨4, _⟩ => ⟨S8192x5120, .bf16⟩
  | .hbm, ⟨5, _⟩ => ⟨S1x3456, .f32⟩
  | .hbm, ⟨6, _⟩ => ⟨S8192x3456, .bf16⟩
  | .hbm, ⟨7, _⟩ => ⟨S8192x5120, .fp8e4m3⟩
  | .hbm, ⟨8, _⟩ => ⟨S8192x40, .f32⟩
  | .local _ .vmem, ⟨0, _⟩ => ⟨S256x5120, .bf16⟩
  | .local _ .vmem, ⟨1, _⟩ => ⟨S256x5120, .bf16⟩
  | .local _ .vmem, ⟨2, _⟩ => ⟨S3456x5120, .fp8e4m3⟩
  | .local _ .vmem, ⟨3, _⟩ => ⟨S1x3456, .f32⟩
  | .local _ .vmem, ⟨4, _⟩ => ⟨S256x3456, .bf16⟩
  | .local _ .vmem, ⟨5, _⟩ => ⟨S256x3456, .bf16⟩
  | .local _ .vmem, ⟨6, _⟩ => ⟨S256x5120, .fp8e4m3⟩
  | .local _ .vmem, ⟨7, _⟩ => ⟨S256x5120, .fp8e4m3⟩
  | .local _ .vmem, ⟨8, _⟩ => ⟨S256x40, .f32⟩
  | .local _ .vmem, ⟨9, _⟩ => ⟨S256x40, .f32⟩
  | .local _ .vmem, ⟨10, _⟩ => ⟨S3456x256, .f32⟩
  | .local _ .vmem, ⟨11, _⟩ => ⟨S128x256, .f32⟩
  | .local _ .smem, ⟨0, _⟩ => ⟨S27x40, .f32⟩
  | _, _ => ⟨S1x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1077 : BitVec 32 := 0#32
  let c40_i32 : BitVec 32 := 40#32
  let v3492 : BitVec 32 := Scalar.addi c0_i32_1077 c40_i32
  let c1_i32_1078 : BitVec 32 := 1#32
  ⟨c0_i32_1077, v3492, c1_i32_1078⟩
def k0_mult1 (k0_t1 : Fin k0_t1_loop.trips) : BitVec 32 :=
  let c0_i32_1077 : BitVec 32 := 0#32
  let c1_i32_1078 : BitVec 32 := 1#32
  let arg10 : BitVec 32 := Scf.iv c0_i32_1077 c1_i32_1078 k0_t1
  let c128_i32 : BitVec 32 := 128#32
  let v3501 : BitVec 32 := Scalar.muli arg10 c128_i32
  v3501
def k0_off1 (k0_t1 : Fin k0_t1_loop.trips) : Fin 2 → Nat :=
  let c0_1086 : Index := 0#32
  let c0_i32_1077 : BitVec 32 := 0#32
  let c1_i32_1078 : BitVec 32 := 1#32
  let arg10 : BitVec 32 := Scf.iv c0_i32_1077 c1_i32_1078 k0_t1
  let c128_i32 : BitVec 32 := 128#32
  let v3501 : BitVec 32 := Scalar.muli arg10 c128_i32
  let v3502 : BitVec 32 := v3501
  let v3503 : Index := Scalar.indexCast v3502
  ![0, v3503.toNat]
def k0_off2 (k0_t1 : Fin k0_t1_loop.trips) : Fin 2 → Nat :=
  let c0_1087 : Index := 0#32
  let c0_i32_1077 : BitVec 32 := 0#32
  let c1_i32_1078 : BitVec 32 := 1#32
  let arg10 : BitVec 32 := Scf.iv c0_i32_1077 c1_i32_1078 k0_t1
  let c128_i32 : BitVec 32 := 128#32
  let v3501 : BitVec 32 := Scalar.muli arg10 c128_i32
  let v3502 : BitVec 32 := v3501
  let v3505 : Index := Scalar.indexCast v3502
  ![0, v3505.toNat]
def k0_off3 (k0_t1 : Fin k0_t1_loop.trips) : Fin 2 → Nat :=
  let c0_i32_1077 : BitVec 32 := 0#32
  let c1_i32_1078 : BitVec 32 := 1#32
  let arg10 : BitVec 32 := Scf.iv c0_i32_1077 c1_i32_1078 k0_t1
  let v3509 : Index := Scalar.indexCast arg10
  let c0_1089 : Index := 0#32
  ![v3509.toNat, 0]
def k0_off4 (k0_t1 : Fin k0_t1_loop.trips) : Fin 2 → Nat :=
  let c0_1092 : Index := 0#32
  let c0_i32_1077 : BitVec 32 := 0#32
  let c1_i32_1078 : BitVec 32 := 1#32
  let arg10 : BitVec 32 := Scf.iv c0_i32_1077 c1_i32_1078 k0_t1
  let v3513 : Index := Scalar.indexCast arg10
  ![0, v3513.toNat]
def k0_off5 (k0_t1 : Fin k0_t1_loop.trips) : Fin 2 → Nat :=
  let c1 : Index := 1#32
  let c0_i32_1077 : BitVec 32 := 0#32
  let c1_i32_1078 : BitVec 32 := 1#32
  let arg10 : BitVec 32 := Scf.iv c0_i32_1077 c1_i32_1078 k0_t1
  let v3525 : Index := Scalar.indexCast arg10
  ![1, v3525.toNat]
def k0_off6 (k0_t1 : Fin k0_t1_loop.trips) : Fin 2 → Nat :=
  let c2 : Index := 2#32
  let c0_i32_1077 : BitVec 32 := 0#32
  let c1_i32_1078 : BitVec 32 := 1#32
  let arg10 : BitVec 32 := Scf.iv c0_i32_1077 c1_i32_1078 k0_t1
  let v3537 : Index := Scalar.indexCast arg10
  ![2, v3537.toNat]
def k0_off7 (k0_t1 : Fin k0_t1_loop.trips) : Fin 2 → Nat :=
  let c3 : Index := 3#32
  let c0_i32_1077 : BitVec 32 := 0#32
  let c1_i32_1078 : BitVec 32 := 1#32
  let arg10 : BitVec 32 := Scf.iv c0_i32_1077 c1_i32_1078 k0_t1
  let v3549 : Index := Scalar.indexCast arg10
  ![3, v3549.toNat]
def k0_off8 (k0_t1 : Fin k0_t1_loop.trips) : Fin 2 → Nat :=
  let c4 : Index := 4#32
  let c0_i32_1077 : BitVec 32 := 0#32
  let c1_i32_1078 : BitVec 32 := 1#32
  let arg10 : BitVec 32 := Scf.iv c0_i32_1077 c1_i32_1078 k0_t1
  let v3561 : Index := Scalar.indexCast arg10
  ![4, v3561.toNat]
def k0_off9 (k0_t1 : Fin k0_t1_loop.trips) : Fin 2 → Nat :=
  let c5 : Index := 5#32
  let c0_i32_1077 : BitVec 32 := 0#32
  let c1_i32_1078 : BitVec 32 := 1#32
  let arg10 : BitVec 32 := Scf.iv c0_i32_1077 c1_i32_1078 k0_t1
  let v3573 : Index := Scalar.indexCast arg10
  ![5, v3573.toNat]
def k0_off10 (k0_t1 : Fin k0_t1_loop.trips) : Fin 2 → Nat :=
  let c6 : Index := 6#32
  let c0_i32_1077 : BitVec 32 := 0#32
  let c1_i32_1078 : BitVec 32 := 1#32
  let arg10 : BitVec 32 := Scf.iv c0_i32_1077 c1_i32_1078 k0_t1
  let v3585 : Index := Scalar.indexCast arg10
  ![6, v3585.toNat]
def k0_off11 (k0_t1 : Fin k0_t1_loop.trips) : Fin 2 → Nat :=
  let c7 : Index := 7#32
  let c0_i32_1077 : BitVec 32 := 0#32
  let c1_i32_1078 : BitVec 32 := 1#32
  let arg10 : BitVec 32 := Scf.iv c0_i32_1077 c1_i32_1078 k0_t1
  let v3597 : Index := Scalar.indexCast arg10
  ![7, v3597.toNat]
def k0_off12 (k0_t1 : Fin k0_t1_loop.trips) : Fin 2 → Nat :=
  let c8 : Index := 8#32
  let c0_i32_1077 : BitVec 32 := 0#32
  let c1_i32_1078 : BitVec 32 := 1#32
  let arg10 : BitVec 32 := Scf.iv c0_i32_1077 c1_i32_1078 k0_t1
  let v3609 : Index := Scalar.indexCast arg10
  ![8, v3609.toNat]
def k0_off13 (k0_t1 : Fin k0_t1_loop.trips) : Fin 2 → Nat :=
  let c9 : Index := 9#32
  let c0_i32_1077 : BitVec 32 := 0#32
  let c1_i32_1078 : BitVec 32 := 1#32
  let arg10 : BitVec 32 := Scf.iv c0_i32_1077 c1_i32_1078 k0_t1
  let v3621 : Index := Scalar.indexCast arg10
  ![9, v3621.toNat]
def k0_off14 (k0_t1 : Fin k0_t1_loop.trips) : Fin 2 → Nat :=
  let c10 : Index := 10#32
  let c0_i32_1077 : BitVec 32 := 0#32
  let c1_i32_1078 : BitVec 32 := 1#32
  let arg10 : BitVec 32 := Scf.iv c0_i32_1077 c1_i32_1078 k0_t1
  let v3633 : Index := Scalar.indexCast arg10
  ![10, v3633.toNat]
def k0_off15 (k0_t1 : Fin k0_t1_loop.trips) : Fin 2 → Nat :=
  let c11 : Index := 11#32
  let c0_i32_1077 : BitVec 32 := 0#32
  let c1_i32_1078 : BitVec 32 := 1#32
  let arg10 : BitVec 32 := Scf.iv c0_i32_1077 c1_i32_1078 k0_t1
  let v3645 : Index := Scalar.indexCast arg10
  ![11, v3645.toNat]
def k0_off16 (k0_t1 : Fin k0_t1_loop.trips) : Fin 2 → Nat :=
  let c12 : Index := 12#32
  let c0_i32_1077 : BitVec 32 := 0#32
  let c1_i32_1078 : BitVec 32 := 1#32
  let arg10 : BitVec 32 := Scf.iv c0_i32_1077 c1_i32_1078 k0_t1
  let v3657 : Index := Scalar.indexCast arg10
  ![12, v3657.toNat]
def k0_off17 (k0_t1 : Fin k0_t1_loop.trips) : Fin 2 → Nat :=
  let c13 : Index := 13#32
  let c0_i32_1077 : BitVec 32 := 0#32
  let c1_i32_1078 : BitVec 32 := 1#32
  let arg10 : BitVec 32 := Scf.iv c0_i32_1077 c1_i32_1078 k0_t1
  let v3669 : Index := Scalar.indexCast arg10
  ![13, v3669.toNat]
def k0_off18 (k0_t1 : Fin k0_t1_loop.trips) : Fin 2 → Nat :=
  let c14 : Index := 14#32
  let c0_i32_1077 : BitVec 32 := 0#32
  let c1_i32_1078 : BitVec 32 := 1#32
  let arg10 : BitVec 32 := Scf.iv c0_i32_1077 c1_i32_1078 k0_t1
  let v3681 : Index := Scalar.indexCast arg10
  ![14, v3681.toNat]
def k0_off19 (k0_t1 : Fin k0_t1_loop.trips) : Fin 2 → Nat :=
  let c15 : Index := 15#32
  let c0_i32_1077 : BitVec 32 := 0#32
  let c1_i32_1078 : BitVec 32 := 1#32
  let arg10 : BitVec 32 := Scf.iv c0_i32_1077 c1_i32_1078 k0_t1
  let v3693 : Index := Scalar.indexCast arg10
  ![15, v3693.toNat]
def k0_off20 (k0_t1 : Fin k0_t1_loop.trips) : Fin 2 → Nat :=
  let c16 : Index := 16#32
  let c0_i32_1077 : BitVec 32 := 0#32
  let c1_i32_1078 : BitVec 32 := 1#32
  let arg10 : BitVec 32 := Scf.iv c0_i32_1077 c1_i32_1078 k0_t1
  let v3705 : Index := Scalar.indexCast arg10
  ![16, v3705.toNat]
def k0_off21 (k0_t1 : Fin k0_t1_loop.trips) : Fin 2 → Nat :=
  let c17 : Index := 17#32
  let c0_i32_1077 : BitVec 32 := 0#32
  let c1_i32_1078 : BitVec 32 := 1#32
  let arg10 : BitVec 32 := Scf.iv c0_i32_1077 c1_i32_1078 k0_t1
  let v3717 : Index := Scalar.indexCast arg10
  ![17, v3717.toNat]
def k0_off22 (k0_t1 : Fin k0_t1_loop.trips) : Fin 2 → Nat :=
  let c18 : Index := 18#32
  let c0_i32_1077 : BitVec 32 := 0#32
  let c1_i32_1078 : BitVec 32 := 1#32
  let arg10 : BitVec 32 := Scf.iv c0_i32_1077 c1_i32_1078 k0_t1
  let v3729 : Index := Scalar.indexCast arg10
  ![18, v3729.toNat]
def k0_off23 (k0_t1 : Fin k0_t1_loop.trips) : Fin 2 → Nat :=
  let c19 : Index := 19#32
  let c0_i32_1077 : BitVec 32 := 0#32
  let c1_i32_1078 : BitVec 32 := 1#32
  let arg10 : BitVec 32 := Scf.iv c0_i32_1077 c1_i32_1078 k0_t1
  let v3741 : Index := Scalar.indexCast arg10
  ![19, v3741.toNat]
def k0_off24 (k0_t1 : Fin k0_t1_loop.trips) : Fin 2 → Nat :=
  let c20 : Index := 20#32
  let c0_i32_1077 : BitVec 32 := 0#32
  let c1_i32_1078 : BitVec 32 := 1#32
  let arg10 : BitVec 32 := Scf.iv c0_i32_1077 c1_i32_1078 k0_t1
  let v3753 : Index := Scalar.indexCast arg10
  ![20, v3753.toNat]
def k0_off25 (k0_t1 : Fin k0_t1_loop.trips) : Fin 2 → Nat :=
  let c21 : Index := 21#32
  let c0_i32_1077 : BitVec 32 := 0#32
  let c1_i32_1078 : BitVec 32 := 1#32
  let arg10 : BitVec 32 := Scf.iv c0_i32_1077 c1_i32_1078 k0_t1
  let v3765 : Index := Scalar.indexCast arg10
  ![21, v3765.toNat]
def k0_off26 (k0_t1 : Fin k0_t1_loop.trips) : Fin 2 → Nat :=
  let c22 : Index := 22#32
  let c0_i32_1077 : BitVec 32 := 0#32
  let c1_i32_1078 : BitVec 32 := 1#32
  let arg10 : BitVec 32 := Scf.iv c0_i32_1077 c1_i32_1078 k0_t1
  let v3777 : Index := Scalar.indexCast arg10
  ![22, v3777.toNat]
def k0_off27 (k0_t1 : Fin k0_t1_loop.trips) : Fin 2 → Nat :=
  let c23 : Index := 23#32
  let c0_i32_1077 : BitVec 32 := 0#32
  let c1_i32_1078 : BitVec 32 := 1#32
  let arg10 : BitVec 32 := Scf.iv c0_i32_1077 c1_i32_1078 k0_t1
  let v3789 : Index := Scalar.indexCast arg10
  ![23, v3789.toNat]
def k0_off28 (k0_t1 : Fin k0_t1_loop.trips) : Fin 2 → Nat :=
  let c24 : Index := 24#32
  let c0_i32_1077 : BitVec 32 := 0#32
  let c1_i32_1078 : BitVec 32 := 1#32
  let arg10 : BitVec 32 := Scf.iv c0_i32_1077 c1_i32_1078 k0_t1
  let v3801 : Index := Scalar.indexCast arg10
  ![24, v3801.toNat]
def k0_off29 (k0_t1 : Fin k0_t1_loop.trips) : Fin 2 → Nat :=
  let c25 : Index := 25#32
  let c0_i32_1077 : BitVec 32 := 0#32
  let c1_i32_1078 : BitVec 32 := 1#32
  let arg10 : BitVec 32 := Scf.iv c0_i32_1077 c1_i32_1078 k0_t1
  let v3813 : Index := Scalar.indexCast arg10
  ![25, v3813.toNat]
def k0_off30 (k0_t1 : Fin k0_t1_loop.trips) : Fin 2 → Nat :=
  let c26 : Index := 26#32
  let c0_i32_1077 : BitVec 32 := 0#32
  let c1_i32_1078 : BitVec 32 := 1#32
  let arg10 : BitVec 32 := Scf.iv c0_i32_1077 c1_i32_1078 k0_t1
  let v3825 : Index := Scalar.indexCast arg10
  ![26, v3825.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S27x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3456x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3456 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x40 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x8192x5120 : Shape := ⟨3, ![1, 8192, 5120]⟩
abbrev S3456x5120 : Shape := ⟨2, ![3456, 5120]⟩
abbrev S27x40 : Shape := ⟨2, ![27, 40]⟩
abbrev S3456 : Shape := ⟨1, ![3456]⟩
abbrev S8192x5120 : Shape := ⟨2, ![8192, 5120]⟩
abbrev S1x3456 : Shape := ⟨2, ![1, 3456]⟩
abbrev S8192x3456 : Shape := ⟨2, ![8192, 3456]⟩
abbrev S8192x40 : Shape := ⟨2, ![8192, 40]⟩
abbrev S8192x40x128 : Shape := ⟨3, ![8192, 40, 128]⟩
abbrev S8192x40x253 : Shape := ⟨3, ![8192, 40, 253]⟩
abbrev S8192x40x1 : Shape := ⟨3, ![8192, 40, 1]⟩
abbrev S3456x40x128 : Shape := ⟨3, ![3456, 40, 128]⟩
abbrev S40x8192x128 : Shape := ⟨3, ![40, 8192, 128]⟩
abbrev S40x3456x128 : Shape := ⟨3, ![40, 3456, 128]⟩
abbrev S40x8192x3456 : Shape := ⟨3, ![40, 8192, 3456]⟩
abbrev S27x1x40 : Shape := ⟨3, ![27, 1, 40]⟩
abbrev S27x128x40 : Shape := ⟨3, ![27, 128, 40]⟩
abbrev S3456x40 : Shape := ⟨2, ![3456, 40]⟩
abbrev S40x8192 : Shape := ⟨2, ![40, 8192]⟩
abbrev S40x8192x1 : Shape := ⟨3, ![40, 8192, 1]⟩
abbrev S40x3456 : Shape := ⟨2, ![40, 3456]⟩
abbrev S40x1x3456 : Shape := ⟨3, ![40, 1, 3456]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x5120, .bf16⟩
  | .hbm, ⟨1, _⟩ => ⟨S3456x5120, .fp8e4m3⟩
  | .hbm, ⟨2, _⟩ => ⟨S27x40, .f32⟩
  | .hbm, ⟨3, _⟩ => ⟨S3456, .f32⟩
  | .hbm, ⟨4, _⟩ => ⟨S8192x5120, .bf16⟩
  | .hbm, ⟨5, _⟩ => ⟨S1x3456, .f32⟩
  | .hbm, ⟨6, _⟩ => ⟨S8192x3456, .bf16⟩
  | .hbm, ⟨7, _⟩ => ⟨S8192x5120, .fp8e4m3⟩
  | .hbm, ⟨8, _⟩ => ⟨S8192x40, .f32⟩
  | .local _ .vmem, ⟨0, _⟩ => ⟨S8192x5120, .bf16⟩
  | .local _ .vmem, ⟨1, _⟩ => ⟨S3456x5120, .fp8e4m3⟩
  | .local _ .vmem, ⟨2, _⟩ => ⟨S27x40, .f32⟩
  | .local _ .vmem, ⟨3, _⟩ => ⟨S1x3456, .f32⟩
  | .local _ .vmem, ⟨4, _⟩ => ⟨S8192x3456, .bf16⟩
  | .local _ .vmem, ⟨5, _⟩ => ⟨S8192x5120, .fp8e4m3⟩
  | .local _ .vmem, ⟨6, _⟩ => ⟨S8192x40, .f32⟩
  | _, _ => ⟨S1x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3456x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelGroups.lean ====
module

public import proofs.«01_k».proof.Proof.Gen.KernelIdeal.Value
public import Idealize.ShloMosaic.Lib.Pipeline.ValueKit

@[expose] public section

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat)

variable {F : FTy → Type} [FloatOps F]

/-- The lane number of every entry of a tile of 256 tokens by 128 lanes. -/
def lanes : IVec S256x128 32 := iota Kind.tc S256x128 32 [1] iota_S256x128_d1_w32

/-- Group `g` of a block of 256 tokens: their columns `128 * g` to `128 * g + 127`. -/
def grp (x1 : Vec F S256x5120 .bf16) (g : Nat) : Vec F S256x128 .bf16 :=
  fun j => x1 (ix2 (j 0) ⟨(128 * g + (j 1).val) % 5120, Nat.mod_lt _ (by norm_num)⟩)

/-- The codes the kernel computes from one group: the operations it applies to group 0. -/
def cod (v : Vec F S256x128 .bf16) : FVec F S256x128 .fp8e4m3 :=
  k0_pay44 (k0_pay37 v) (k0_pay38 v) (k0_pay39 v) (k0_pay40 v) (k0_pay41 v) (k0_pay42 v)

/-- The scale the kernel computes from one group, the same on all lanes: the operations it applies to group 0. -/
def scl (v : Vec F S256x128 .bf16) : FVec F S256x128 .f32 :=
  k0_pay46 (k0_pay38 v) (k0_pay39 v) (k0_pay40 v) (k0_pay41 v) (k0_pay42 v)

/-- The tile of scales after the first `n` groups: group `g` puts its scale in lane `g`. -/
def chain (b : Nat → Vec F S256x128 .bf16) : Nat → FVec F S256x128 .f32
  | 0 => k0_pay36
  | g + 1 => select (cmpi .eq lanes (broadcast S256x128 (BitVec.ofNat 32 g))) (scl (b g)) (chain b g)

/-- The codes of a block of 256 tokens, group by group. -/
def codes (x1 : Vec F S256x5120 .bf16) : FVec F S256x5120 .fp8e4m3 :=
  fun y => cod (grp x1 ((y 1).val / 128)) (ix2 (y 0) ⟨(y 1).val % 128, Nat.mod_lt _ (by norm_num)⟩)

/-- Loading 128 columns from column `128 * g` on is taking group `g`. -/
theorem ld_grp (x1 : Vec F S256x5120 .bf16) (g : Nat) (hg : g < 40) (off : Fin 2 → Nat) (hoff : off = ![0, 128 * g])
    (inb : ∀ a, off a + ![256, 128] a ≤ S256x5120.size a) :
    View.ld x1 (Rect.unit (s := S256x5120) off ![256, 128] inb) = grp x1 g := by
  subst hoff
  funext j
  rw [View.ld_apply]
  unfold grp
  congr 1
  funext a
  have h1 : (j 1).val < 128 := (j 1).isLt
  apply Fin.ext
  match a with
  | 0 => simp
  | 1 => simp; omega

/-- The same from a column's number: the columns from `n`, a multiple of 128, on are group `n / 128`. -/
theorem ld_col (x1 : Vec F S256x5120 .bf16) (n : Nat) (inb : ∀ a, ![0, n] a + ![256, 128] a ≤ S256x5120.size a)
    (hn : n < 5120) (hd : n % 128 = 0) :
    View.ld x1 (Rect.unit (s := S256x5120) ![0, n] ![256, 128] inb) = grp x1 (n / 128) :=
  ld_grp x1 (n / 128) (by omega) ![0, n] (by rw [show 128 * (n / 128) = n by omega]) inb

/-- A column of group `g` has the code that group gives it. -/
theorem codes_grp (x1 : Vec F S256x5120 .bf16) (y : S256x5120.Idx) (x : S256x128.Idx) (g : Nat)
    (h0 : (y 0 : ℕ) = x 0) (h1 : (y 1 : ℕ) = 128 * g + x 1) : codes x1 y = cod (grp x1 g) x := by
  have hx : (x 1).val < 128 := (x 1).isLt
  have e1 : (y 1).val / 128 = g := by omega
  unfold codes
  rw [e1]
  congr 1
  funext a
  apply Fin.ext
  match a with
  | 0 => simpa using h0
  | 1 => simp; omega

/-- The same from the column where the group begins. -/
theorem codes_col (x1 : Vec F S256x5120 .bf16) (y : S256x5120.Idx) (x : S256x128.Idx) (n : Nat) (hd : n % 128 = 0)
    (h0 : (y 0 : ℕ) = x 0) (h1 : (y 1 : ℕ) = n + x 1) : codes x1 y = cod (grp x1 (n / 128)) x :=
  codes_grp x1 y x (n / 128) h0 (by omega)

set_option maxHeartbeats 2000000 in
/-- What one grid point leaves in the block of codes: the codes of its tokens. -/
theorem codes_canon (c : Dev nD) (arg2 : Memref sig .tc .vmem S256x5120 .bf16) (harg2 : arg2.IsWhole) (x1 : Vec F S256x5120 .bf16) :
    View.canon (kernelRun0_A.sl.H5_40 c arg2 harg2 x1) = codes x1 := by
  funext y
  frame_out
  canon_tiles x h
  all_goals
    simp (disch := norm_num) only [ld_col]
    first
    | exact Eq.trans rfl (codes_col x1 y x _ (by norm_num) h0 h1).symm
    | exact Eq.trans rfl (codes_grp x1 y x 0 h0 (by omega)).symm

set_option maxHeartbeats 2000000 in
/-- What one grid point leaves in the scratch of scales: the tile of scales of all 40 groups, turned. -/
theorem turned_canon (c : Dev nD) (arg2 : Memref sig .tc .vmem S256x5120 .bf16) (harg2 : arg2.IsWhole) (x1 : Vec F S256x5120 .bf16) :
    View.canon (kernelRun0_A.sl.HS1_1 c arg2 harg2 x1)
      = transpose S128x256 [1, 0] (chain (grp x1) 40) transposes_S256x128_p1_0_S128x256 := by
  frame_out
  simp (disch := norm_num) only [ld_col]
  exact shapeCast_self _ _

set_option maxHeartbeats 2000000 in
/-- What one grid point leaves in the block of scales: the first 40 lanes of the tile of scales. -/
theorem out_scales (c : Dev nD) (i : grid0.Coords) (arg1 : Memref sig .tc .smem S27x40 .f32) (harg1 : arg1.IsWhole) (arg2 : Memref sig .tc .vmem S256x5120 .bf16) (harg2 : arg2.IsWhole) (arg3 : Memref sig .tc .vmem S3456x5120 .fp8e4m3) (harg3 : arg3.IsWhole) (arg4 : Memref sig .tc .vmem S1x3456 .f32) (harg4 : arg4.IsWhole) (arg5 : Memref sig .tc .vmem S256x3456 .bf16) (harg5 : arg5.IsWhole) (arg6 : Memref sig .tc .vmem S256x5120 .fp8e4m3) (harg6 : arg6.IsWhole) (arg7 : Memref sig .tc .vmem S256x40 .f32) (harg7 : arg7.IsWhole) (arg8 : Memref sig .tc .vmem S3456x256 .f32) (harg8 : arg8.IsWhole) (arg9 : Memref sig .tc .vmem S128x256 .f32) (harg9 : arg9.IsWhole) (x0 : Vec F S27x40 .f32) (x1 : Vec F S256x5120 .bf16) (x2 : Vec F S3456x5120 .fp8e4m3) (x3 : Vec F S1x3456 .f32) :
    out0_A_6 c i arg1 harg1 arg2 harg2 arg3 harg3 arg4 harg4 arg5 harg5 arg6 harg6 arg7 harg7 arg8 harg8 arg9 harg9 x0 x1 x2 x3
      = extractStridedSlice S256x40 ![0, 0] (chain (grp x1) 40) slices_S256x128_o0_0_S256x40 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3)]
  frame_out
  simp (disch := norm_num) only [ld_col]
  rfl

/-- What one grid point leaves in the block of codes. -/
theorem out_codes (c : Dev nD) (i : grid0.Coords) (arg1 : Memref sig .tc .smem S27x40 .f32) (harg1 : arg1.IsWhole) (arg2 : Memref sig .tc .vmem S256x5120 .bf16) (harg2 : arg2.IsWhole) (arg3 : Memref sig .tc .vmem S3456x5120 .fp8e4m3) (harg3 : arg3.IsWhole) (arg4 : Memref sig .tc .vmem S1x3456 .f32) (harg4 : arg4.IsWhole) (arg5 : Memref sig .tc .vmem S256x3456 .bf16) (harg5 : arg5.IsWhole) (arg6 : Memref sig .tc .vmem S256x5120 .fp8e4m3) (harg6 : arg6.IsWhole) (arg7 : Memref sig .tc .vmem S256x40 .f32) (harg7 : arg7.IsWhole) (arg8 : Memref sig .tc .vmem S3456x256 .f32) (harg8 : arg8.IsWhole) (arg9 : Memref sig .tc .vmem S128x256 .f32) (harg9 : arg9.IsWhole) (x0 : Vec F S27x40 .f32) (x1 : Vec F S256x5120 .bf16) (x2 : Vec F S3456x5120 .fp8e4m3) (x3 : Vec F S1x3456 .f32) :
    out0_A_5 c i arg1 harg1 arg2 harg2 arg3 harg3 arg4 harg4 arg5 harg5 arg6 harg6 arg7 harg7 arg8 harg8 arg9 harg9 x0 x1 x2 x3 = codes x1 := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3)]
  exact codes_canon c arg2 harg2 x1

end Cert.KernelIdeal.KV
-- ==== Proof.KernelLoop.lean ====
module

public import proofs.«01_k».proof.Proof.Gen.KernelIdeal.Value
public import proofs.«01_k».proof.Proof.KernelGroups
public import Idealize.ShloMosaic.Lib.Pipeline.ValueKit

@[expose] public section

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat)

/-- The product of the weight codes of output row `o` and the codes of token `r` within group `g`. -/
def part (W : FVec Ideal S3456x5120 .fp8e4m3) (C : FVec Ideal S256x5120 .fp8e4m3) (g : Nat) (o : Fin 3456) (r : Fin 256) : EReal :=
  ∑ k : Fin 128, W (ix2 o ⟨(128 * g + k.val) % 5120, Nat.mod_lt _ (by norm_num)⟩) * C (ix2 r ⟨(128 * g + k.val) % 5120, Nat.mod_lt _ (by norm_num)⟩)

/-- One trip of the loop over the groups: the accumulator `A` plus group `g`'s product times the token's scale (row `g`
    of the turned scales `T`) and the weight's scale. -/
def accStep (W : FVec Ideal S3456x5120 .fp8e4m3) (C : FVec Ideal S256x5120 .fp8e4m3) (T : FVec Ideal S128x256 .f32) (SW : FVec Ideal S27x40 .f32)
    (g : Nat) (A : FVec Ideal S3456x256 .f32) : FVec Ideal S3456x256 .f32 := fun y =>
  A y + part W C g (y 0) (y 1) * (T (ix2 ⟨g % 128, Nat.mod_lt _ (by norm_num)⟩ (y 1)) * SW (ix2 ⟨(y 0).val / 128, by have : (y 0).val < 3456 := (y 0).isLt; omega⟩ ⟨g % 40, Nat.mod_lt _ (by norm_num)⟩))

/-- The accumulator after the first `n` trips. -/
def acc (W : FVec Ideal S3456x5120 .fp8e4m3) (C : FVec Ideal S256x5120 .fp8e4m3) (T : FVec Ideal S128x256 .f32) (SW : FVec Ideal S27x40 .f32)
    (A : FVec Ideal S3456x256 .f32) : Nat → FVec Ideal S3456x256 .f32
  | 0 => A
  | n + 1 => accStep W C T SW n (acc W C T SW A n)

/-- Trip `k` reads its group from column `128 * k` on. -/
theorem off128 : ∀ k : Fin k0_t1_loop.trips, BitVec.toNat (Scalar.indexCast (Scalar.muli (Scf.iv 0#32 1#32 k.val) 128#32)) = 128 * k.val := by decide +kernel

/-- Trip `k` reads row `k` of the turned scales. -/
theorem off1 : ∀ k : Fin k0_t1_loop.trips, BitVec.toNat (Scalar.indexCast (Scf.iv 0#32 1#32 k.val)) = k.val := by decide +kernel

/-- There are 40 trips. -/
theorem trips_lt : ∀ k : Fin k0_t1_loop.trips, k.val < 40 := by decide +kernel

/-- A store of 128 rows of the accumulator from row `n` on, at coordinates. -/
theorem emb_rows (n : Nat) (inb : ∀ a, ![n, 0] a + ![128, 256] a ≤ S3456x256.size a) (x : S128x256.Idx) (h : n + 128 ≤ 3456) :
    (Rect.unit (s := S3456x256) ![n, 0] ![128, 256] inb).emb x = ix2 ⟨n + (x 0).val, by have : (x 0).val < 128 := (x 0).isLt; omega⟩ (x 1) := by
  funext a
  apply Fin.ext
  match a with
  | 0 => simp
  | 1 => simp

set_option maxHeartbeats 2000000 in
/-- Every store of trip `k` leaves the accumulator one step further on the rows it writes. -/
theorem trip_pieces (𝒱 : Variants) (c : Dev nD) (bd : Option 𝒱.V) (i : grid0.Coords) (arg1 : Memref sig .tc .smem S27x40 .f32) (harg1 : arg1.IsWhole) (arg2 : Memref sig .tc .vmem S256x5120 .bf16) (harg2 : arg2.IsWhole) (arg3 : Memref sig .tc .vmem S3456x5120 .fp8e4m3) (harg3 : arg3.IsWhole) (arg4 : Memref sig .tc .vmem S1x3456 .f32) (harg4 : arg4.IsWhole) (arg5 : Memref sig .tc .vmem S256x3456 .bf16) (harg5 : arg5.IsWhole) (arg6 : Memref sig .tc .vmem S256x5120 .fp8e4m3) (harg6 : arg6.IsWhole) (arg7 : Memref sig .tc .vmem S256x40 .f32) (harg7 : arg7.IsWhole) (arg8 : Memref sig .tc .vmem S3456x256 .f32) (harg8 : arg8.IsWhole) (arg9 : Memref sig .tc .vmem S128x256 .f32) (harg9 : arg9.IsWhole) (v0 : IVec S256x128 32) (v2611 : FVec Ideal S256x128 .f32) (v2614 : FVec Ideal S256x128 .f32) (v2673 : IVec S256x1 32) (v2675 : IVec S256x1 32) (v2676 : IVec S256x1 32) (X_arg1 : BufTy.Contents (Elt Ideal) arg1.view.ty) (X_arg3 : BufTy.Contents (Elt Ideal) arg3.view.ty) (X_arg6 : BufTy.Contents (Elt Ideal) arg6.view.ty) (X_arg9 : BufTy.Contents (Elt Ideal) arg9.view.ty) (k : Fin k0_t1_loop.trips) (f_arg8 : BufTy.Contents (Elt Ideal) arg8.view.ty) : ∀ p ∈ tripL_k0_t1 𝒱 c bd i arg1 harg1 arg2 harg2 arg3 harg3 arg4 harg4 arg5 harg5 arg6 harg6 arg7 harg7 arg8 harg8 arg9 harg9 v0 v2611 v2614 v2673 v2675 v2676 X_arg1 X_arg3 X_arg6 X_arg9 k f_arg8, ∀ x : p.1.shape.Idx, p.2 x = accStep (arg3.view.read (Elt Ideal) X_arg3) (arg6.view.read (Elt Ideal) X_arg6) (arg9.view.read (Elt Ideal) X_arg9) (arg1.view.read (Elt Ideal) X_arg1) k.val (arg8.view.read (Elt Ideal) f_arg8) (p.1.emb x) := by
  unfold tripL_k0_t1 trip_k0_t1
  dsimp only
  sl_unfold_words
  have hk := trips_lt k
  simp only [List.forall_mem_cons, View.readAt_eq_ld]
  refine ⟨?_, ?_, ?_, ?_, ?_, ?_, ?_, ?_, ?_, ?_, ?_, ?_, ?_, ?_, ?_, ?_, ?_, ?_, ?_, ?_, ?_, ?_, ?_, ?_, ?_, ?_, ?_, by simp⟩
  all_goals
    intro x
    rw [emb_rows (h := by norm_num)]
    open_payloads
    pointwise [accStep, part]
    blk_point []
    all_goals first | (rw [off128 k]; omega) | (rw [off1 k]; omega)

/-- Every entry of the accumulator is written by some store of the trip. -/
theorem trip_cover (𝒱 : Variants) (c : Dev nD) (bd : Option 𝒱.V) (i : grid0.Coords) (arg1 : Memref sig .tc .smem S27x40 .f32) (harg1 : arg1.IsWhole) (arg2 : Memref sig .tc .vmem S256x5120 .bf16) (harg2 : arg2.IsWhole) (arg3 : Memref sig .tc .vmem S3456x5120 .fp8e4m3) (harg3 : arg3.IsWhole) (arg4 : Memref sig .tc .vmem S1x3456 .f32) (harg4 : arg4.IsWhole) (arg5 : Memref sig .tc .vmem S256x3456 .bf16) (harg5 : arg5.IsWhole) (arg6 : Memref sig .tc .vmem S256x5120 .fp8e4m3) (harg6 : arg6.IsWhole) (arg7 : Memref sig .tc .vmem S256x40 .f32) (harg7 : arg7.IsWhole) (arg8 : Memref sig .tc .vmem S3456x256 .f32) (harg8 : arg8.IsWhole) (arg9 : Memref sig .tc .vmem S128x256 .f32) (harg9 : arg9.IsWhole) (v0 : IVec S256x128 32) (v2611 : FVec Ideal S256x128 .f32) (v2614 : FVec Ideal S256x128 .f32) (v2673 : IVec S256x1 32) (v2675 : IVec S256x1 32) (v2676 : IVec S256x1 32) (X_arg1 : BufTy.Contents (Elt Ideal) arg1.view.ty) (X_arg3 : BufTy.Contents (Elt Ideal) arg3.view.ty) (X_arg6 : BufTy.Contents (Elt Ideal) arg6.view.ty) (X_arg9 : BufTy.Contents (Elt Ideal) arg9.view.ty) (k : Fin k0_t1_loop.trips) (f_arg8 : BufTy.Contents (Elt Ideal) arg8.view.ty) (y : S3456x256.Idx) : ∃ p ∈ tripL_k0_t1 𝒱 c bd i arg1 harg1 arg2 harg2 arg3 harg3 arg4 harg4 arg5 harg5 arg6 harg6 arg7 harg7 arg8 harg8 arg9 harg9 v0 v2611 v2614 v2673 v2675 v2676 X_arg1 X_arg3 X_arg6 X_arg9 k f_arg8, y ∈ p.1.set :=
  View.cover_of_tiledL (tripL_k0_t1 𝒱 c bd i arg1 harg1 arg2 harg2 arg3 harg3 arg4 harg4 arg5 harg5 arg6 harg6 arg7 harg7 arg8 harg8 arg9 harg9 v0 v2611 v2614 v2673 v2675 v2676 X_arg1 X_arg3 X_arg6 X_arg9 k f_arg8) S128x256.size (by sl_kernel_rfl) y

/-- The accumulator after `n` trips, from what it held before the loop. -/
theorem loop_read (𝒱 : Variants) (c : Dev nD) (bd : Option 𝒱.V) (i : grid0.Coords) (arg1 : Memref sig .tc .smem S27x40 .f32) (harg1 : arg1.IsWhole) (arg2 : Memref sig .tc .vmem S256x5120 .bf16) (harg2 : arg2.IsWhole) (arg3 : Memref sig .tc .vmem S3456x5120 .fp8e4m3) (harg3 : arg3.IsWhole) (arg4 : Memref sig .tc .vmem S1x3456 .f32) (harg4 : arg4.IsWhole) (arg5 : Memref sig .tc .vmem S256x3456 .bf16) (harg5 : arg5.IsWhole) (arg6 : Memref sig .tc .vmem S256x5120 .fp8e4m3) (harg6 : arg6.IsWhole) (arg7 : Memref sig .tc .vmem S256x40 .f32) (harg7 : arg7.IsWhole) (arg8 : Memref sig .tc .vmem S3456x256 .f32) (harg8 : arg8.IsWhole) (arg9 : Memref sig .tc .vmem S128x256 .f32) (harg9 : arg9.IsWhole) (v0 : IVec S256x128 32) (v2611 : FVec Ideal S256x128 .f32) (v2614 : FVec Ideal S256x128 .f32) (v2673 : IVec S256x1 32) (v2675 : IVec S256x1 32) (v2676 : IVec S256x1 32) (X_arg1 : BufTy.Contents (Elt Ideal) arg1.view.ty) (X_arg3 : BufTy.Contents (Elt Ideal) arg3.view.ty) (X_arg6 : BufTy.Contents (Elt Ideal) arg6.view.ty) (X_arg9 : BufTy.Contents (Elt Ideal) arg9.view.ty) (G_arg8 : BufTy.Contents (Elt Ideal) arg8.view.ty) : ∀ n : Nat, n ≤ k0_t1_loop.trips →
    arg8.view.read (Elt Ideal) (arg8.view.writes (Elt Ideal) G_arg8 (pb_k0_t1 𝒱 c bd i arg1 harg1 arg2 harg2 arg3 harg3 arg4 harg4 arg5 harg5 arg6 harg6 arg7 harg7 arg8 harg8 arg9 harg9 v0 v2611 v2614 v2673 v2675 v2676 X_arg1 X_arg3 X_arg6 X_arg9 G_arg8 n))
      = acc (arg3.view.read (Elt Ideal) X_arg3) (arg6.view.read (Elt Ideal) X_arg6) (arg9.view.read (Elt Ideal) X_arg9) (arg1.view.read (Elt Ideal) X_arg1) (arg8.view.read (Elt Ideal) G_arg8) n
  | 0, _ => rfl
  | n + 1, h => by
    have ih := loop_read 𝒱 c bd i arg1 harg1 arg2 harg2 arg3 harg3 arg4 harg4 arg5 harg5 arg6 harg6 arg7 harg7 arg8 harg8 arg9 harg9 v0 v2611 v2614 v2673 v2675 v2676 X_arg1 X_arg3 X_arg6 X_arg9 G_arg8 n (by omega)
    rw [pb_k0_t1_succ 𝒱 c bd i arg1 harg1 arg2 harg2 arg3 harg3 arg4 harg4 arg5 harg5 arg6 harg6 arg7 harg7 arg8 harg8 arg9 harg9 v0 v2611 v2614 v2673 v2675 v2676 X_arg1 X_arg3 X_arg6 X_arg9 G_arg8 ⟨n, h⟩, View.writes_append]
    funext y
    rw [View.read_writes_apply_of_pieces arg8.view _ _ _ (trip_pieces 𝒱 c bd i arg1 harg1 arg2 harg2 arg3 harg3 arg4 harg4 arg5 harg5 arg6 harg6 arg7 harg7 arg8 harg8 arg9 harg9 v0 v2611 v2614 v2673 v2675 v2676 X_arg1 X_arg3 X_arg6 X_arg9 ⟨n, h⟩ _) y (trip_cover 𝒱 c bd i arg1 harg1 arg2 harg2 arg3 harg3 arg4 harg4 arg5 harg5 arg6 harg6 arg7 harg7 arg8 harg8 arg9 harg9 v0 v2611 v2614 v2673 v2675 v2676 X_arg1 X_arg3 X_arg6 X_arg9 ⟨n, h⟩ _ y)]
    rw [ih]
    rfl

set_option maxHeartbeats 2000000 in
/-- What one grid point leaves in the block of `y`: the accumulator after all 40 trips, turned, plus the bias. -/
theorem out_y (c : Dev nD) (i : grid0.Coords) (arg1 : Memref sig .tc .smem S27x40 .f32) (harg1 : arg1.IsWhole) (arg2 : Memref sig .tc .vmem S256x5120 .bf16) (harg2 : arg2.IsWhole) (arg3 : Memref sig .tc .vmem S3456x5120 .fp8e4m3) (harg3 : arg3.IsWhole) (arg4 : Memref sig .tc .vmem S1x3456 .f32) (harg4 : arg4.IsWhole) (arg5 : Memref sig .tc .vmem S256x3456 .bf16) (harg5 : arg5.IsWhole) (arg6 : Memref sig .tc .vmem S256x5120 .fp8e4m3) (harg6 : arg6.IsWhole) (arg7 : Memref sig .tc .vmem S256x40 .f32) (harg7 : arg7.IsWhole) (arg8 : Memref sig .tc .vmem S3456x256 .f32) (harg8 : arg8.IsWhole) (arg9 : Memref sig .tc .vmem S128x256 .f32) (harg9 : arg9.IsWhole) (x0 : Vec Ideal S27x40 .f32) (x1 : Vec Ideal S256x5120 .bf16) (x2 : Vec Ideal S3456x5120 .fp8e4m3) (x3 : Vec Ideal S1x3456 .f32) :
    out0_A_4 c i arg1 harg1 arg2 harg2 arg3 harg3 arg4 harg4 arg5 harg5 arg6 harg6 arg7 harg7 arg8 harg8 arg9 harg9 x0 x1 x2 x3
      = k0_pay424 (acc x2 (codes x1) (transpose S128x256 [1, 0] (chain (grp x1) 40) transposes_S256x128_p1_0_S128x256) x0 (k0_pay421 (F := Ideal)) 40) x3 := by
  unfold out0_A_4
  rw [View.read_writes_eq_canon _ _ _ (cover0_A_4 c i arg1 harg1 arg2 harg2 arg3 harg3 arg4 harg4 arg5 harg5 arg6 harg6 arg7 harg7 arg8 harg8 arg9 harg9 x0 x1 x2 x3)]
  unfold kernelRun0_A
  dsimp only
  rw [View.canon_cons_unit_zero (funext fun a => by fin_cases a <;> rfl)]
  unfold kernelRun0_A.sl.r_271
  rw [View.readAt_eq_ld, harg4.read_unread, View.ld_unit_zero (funext fun a => by fin_cases a <;> rfl)]
  congr 1
  unfold kernelRun0_A.sl.v3493
  rw [View.readCov_eq_canon']
  refine Eq.trans (b := View.canon _) (funext fun j => congrArg _ (funext fun a => Fin.ext ?_)) ?_
  rotate_left
  rw [← View.read_writes_junk_eq_canon arg8.view, View.writes_append]
  have ht : Scf.trips k0_t1_loop.lb k0_t1_loop.ub k0_t1_loop.st = 40 := by decide +kernel
  rw [ht, loop_read]
  · rw [harg1.read_unread, harg3.read_unread, View.read_writes_junk_eq_canon, View.read_writes_junk_eq_canon, View.read_writes_junk_eq_canon,
      codes_canon, turned_canon]
    congr 1
    unfold kernelRun0_A.sl.HS0_1
    rw [View.canon_cons_unit_zero (funext fun a => by fin_cases a <;> rfl)]
  · decide +kernel
  · match a with
    | 0 => simp
    | 1 => simp

end Cert.KernelIdeal.KV
-- ==== Proof.Scale.lean ====
module

public import Idealize.ShloMosaic.Lib.Pointwise

@[expose] public section

set_option maxRecDepth 16384

noncomputable section

namespace Cert.Scale

open Idealize.ShloMosaic

/-- The float of word `n * 2 ^ 23`: exponent field `n`, no fraction. -/
def p (n : Nat) : EReal := Ideal.ofBits .f32 (BitVec.ofNat 32 (n * 2 ^ 23))

theorem fields : ∀ n : Fin 256, ((BitVec.ofNat 32 (n.val * 2 ^ 23)).extractLsb' 31 1 == 1#1) = false
    ∧ ((BitVec.ofNat 32 (n.val * 2 ^ 23)).extractLsb' 23 8).toNat = n.val
    ∧ ((BitVec.ofNat 32 (n.val * 2 ^ 23)).extractLsb' 0 23).toNat = 0 := by decide +kernel

/-- Exponent field 0 is zero, -/
theorem p_zero : p 0 = 0 := by
  simp [p, Ideal.ofBits, Ideal.ieee]

/-- field 255 is infinity, -/
theorem p_top : p 255 = ⊤ := by
  obtain ⟨h1, h2, h3⟩ := fields 255
  simp [p, Ideal.ofBits, Ideal.ieee]

/-- and a field `n` between is `2 ^ (n - 127)`. -/
theorem p_mid (n : Nat) (h0 : 1 ≤ n) (h1 : n ≤ 254) : p n = (((2 : ℝ) ^ ((n : ℤ) - 127) : ℝ) : EReal) := by
  obtain ⟨e1, e2, e3⟩ := fields ⟨n, by omega⟩
  simp only at e1 e2 e3
  have n1 : ¬ (n = 2 ^ 8 - 1) := by omega
  have n2 : ¬ (n = 0) := by omega
  simp only [p, Ideal.ofBits, Ideal.ieee, e2, e3]
  rw [if_neg n1, if_neg n2, e1]
  congr 1
  simp only [Bool.false_eq_true, if_false, one_mul, add_zero]
  rw [show ((n : ℤ) - 127) = 23 + ((n : ℤ) - 127 - 23) by ring, zpow_add₀ (by norm_num : (2 : ℝ) ≠ 0)]
  norm_num

/-- One step of the search for the exponent field: bit `b` is kept where the float of the word with it is not above `a`. -/
def step (a : EReal) (b w : BitVec 32) : BitVec 32 :=
  if a < Ideal.ofBits .f32 (IntOp.addi w b) then w else IntOp.addi w b

/-- A step halves the interval the exponent field of `a` lies in. -/
theorem step_spec (a : EReal) (n d : Nat) (hn : n + 2 * d ≤ 256) (hlo : p n ≤ a) (hhi : n + 2 * d = 256 ∨ a < p (n + 2 * d)) :
    ∃ n', step a (BitVec.ofNat 32 (d * 2 ^ 23)) (BitVec.ofNat 32 (n * 2 ^ 23)) = BitVec.ofNat 32 (n' * 2 ^ 23)
      ∧ n' + d ≤ 256 ∧ p n' ≤ a ∧ (n' + d = 256 ∨ a < p (n' + d)) := by
  have hw : IntOp.addi (BitVec.ofNat 32 (n * 2 ^ 23)) (BitVec.ofNat 32 (d * 2 ^ 23)) = BitVec.ofNat 32 ((n + d) * 2 ^ 23) := by
    show BitVec.ofNat 32 (n * 2 ^ 23) + BitVec.ofNat 32 (d * 2 ^ 23) = _
    rw [← BitVec.ofNat_add, Nat.add_mul]
  unfold step
  rw [hw]
  by_cases h : a < p (n + d)
  · exact ⟨n, if_pos h, by omega, hlo, .inr h⟩
  · refine ⟨n + d, if_neg h, by omega, not_lt.mp h, ?_⟩
    have e : n + d + d = n + 2 * d := by omega
    rw [e]; exact hhi

/-- The search: the greatest word of exponent bits alone whose float is not above `a`. -/
def word (a : EReal) : BitVec 32 :=
  step a 8388608#32 (step a 16777216#32 (step a 33554432#32 (step a 67108864#32 (step a 134217728#32
    (step a 268435456#32 (step a 536870912#32 (step a 1073741824#32 0#32)))))))

/-- The search finds the exponent field `n` of a finite `a`: `p n ≤ a < p (n + 1)`. -/
theorem word_spec (a : EReal) (h0 : 0 ≤ a) (h1 : a < ⊤) :
    ∃ n, word a = BitVec.ofNat 32 (n * 2 ^ 23) ∧ n ≤ 254 ∧ p n ≤ a ∧ a < p (n + 1) := by
  obtain ⟨n1, e1, b1, l1, u1⟩ := step_spec a 0 128 (by norm_num) (by rw [p_zero]; exact h0) (.inl (by norm_num))
  obtain ⟨n2, e2, b2, l2, u2⟩ := step_spec a n1 64 b1 l1 u1
  obtain ⟨n3, e3, b3, l3, u3⟩ := step_spec a n2 32 b2 l2 u2
  obtain ⟨n4, e4, b4, l4, u4⟩ := step_spec a n3 16 b3 l3 u3
  obtain ⟨n5, e5, b5, l5, u5⟩ := step_spec a n4 8 b4 l4 u4
  obtain ⟨n6, e6, b6, l6, u6⟩ := step_spec a n5 4 b5 l5 u5
  obtain ⟨n7, e7, b7, l7, u7⟩ := step_spec a n6 2 b6 l6 u6
  obtain ⟨n8, e8, b8, l8, u8⟩ := step_spec a n7 1 b7 l7 u7
  have hne : n8 ≠ 255 := by
    rintro rfl
    rw [p_top] at l8
    exact absurd (lt_of_lt_of_le h1 l8) (lt_irrefl _)
  have hw : word a = BitVec.ofNat 32 (n8 * 2 ^ 23) := by
    rw [← e8, ← e7, ← e6, ← e5, ← e4, ← e3, ← e2, ← e1]
    rfl
  refine ⟨n8, hw, by omega, l8, ?_⟩
  rcases u8 with u8 | u8
  · omega
  · exact u8

/-- The exponent the kernel gives a group of greatest magnitude `m` with `|m / 448| = a`. -/
def kExp (m a : EReal) : BitVec 32 :=
  if m = 0 then 0#32 else
    Scalar.select (IntOp.cmpi .eq (IntOp.shrsi .vector (word a) 23#32) 0#32) 0#32
      (IntOp.subi (IntOp.shrsi .vector (word a) 23#32) 126#32)

/-- The kernel's scale, `2` to that exponent, put together from its bits, -/
def kScale (m a : EReal) : EReal := Ideal.ofBits .f32 (IntOp.shli .vector (IntOp.addi (kExp m a) 127#32) 23#32)

/-- and its reciprocal. -/
def kInv (m a : EReal) : EReal := Ideal.ofBits .f32 (IntOp.shli .vector (IntOp.addi (IntOp.subi 0#32 (kExp m a)) 127#32) 23#32)

/-- The power of two the reference has at place `k`. -/
def power (k : Fin 253) : EReal := FloatOps.exp2 (F := Ideal) (φ := .f32) (FloatOps.sitofp .f32 (IntOp.subi (BitVec.ofNat 32 k.val) 125#32))

/-- The reference's scale of a group with `m / 448 = v`. -/
def rScale (v : EReal) : EReal :=
  if v < Ideal.ofBits .f32 8388608#32 then 1
  else Finset.fold min (Ideal.ofBits .f32 2139095040#32)
    (fun k : Fin 253 => if v < power k then power k else Ideal.ofBits .f32 2139095040#32) Finset.univ

theorem power_eq (k : Fin 253) : power k = (((2 : ℝ) ^ ((k.val : ℤ) - 125) : ℝ) : EReal) := by
  have h : ∀ k : Fin 253, (IntOp.subi (BitVec.ofNat 32 k.val) 125#32).toInt = (k.val : ℤ) - 125 := by decide +kernel
  show Ideal.exp2 (((IntOp.subi (BitVec.ofNat 32 k.val) 125#32).toInt : ℝ) : EReal) = _
  rw [h k, Ideal.exp2_coe]
  congr 1
  exact Real.rpow_intCast 2 _

theorem power_p (k : Fin 253) : power k = p (k.val + 2) := by
  rw [power_eq, p_mid _ (by omega) (by omega)]
  congr 2
  push_cast
  ring

/-- The powers grow with the exponent field. -/
theorem p_mono (i j : Nat) (h1 : 1 ≤ i) (h : i ≤ j) (h2 : j ≤ 254) : p i ≤ p j := by
  rw [p_mid i h1 (by omega), p_mid j (by omega) h2, EReal.coe_le_coe_iff]
  exact zpow_le_zpow_right₀ (by norm_num) (by omega)

/-- The least of the powers above `v` is the one next to `v`'s exponent field. -/
theorem rScale_eq (v : EReal) (n : Nat) (h1 : 1 ≤ n) (h2 : n ≤ 253) (hlo : p n ≤ v) (hhi : v < p (n + 1)) : rScale v = p (n + 1) := by
  have hsub : Ideal.ofBits .f32 8388608#32 = p 1 := rfl
  have htop : Ideal.ofBits .f32 2139095040#32 = ⊤ := p_top
  unfold rScale
  rw [hsub, htop, if_neg (not_lt.mpr ((p_mono 1 n le_rfl h1 (by omega)).trans hlo))]
  apply le_antisymm
  · have hk : power ⟨n - 1, by omega⟩ = p (n + 1) := by
      rw [power_p]
      congr 1
      simp only
      omega
    refine (Finset.fold_min_le _).mpr (.inr ⟨⟨n - 1, by omega⟩, Finset.mem_univ _, ?_⟩)
    rw [hk, if_pos hhi]
  · refine Finset.le_fold_min _ |>.mpr ⟨le_top, fun k _ => ?_⟩
    split_ifs with h
    · rw [power_p] at h ⊢
      refine p_mono (n + 1) (k.val + 2) (by omega) ?_ (by omega)
      by_contra hc
      exact absurd (lt_of_lt_of_le h ((p_mono (k.val + 2) n (by omega) (by omega) (by omega)).trans hlo)) (lt_irrefl _)
    · exact le_top

theorem words : ∀ n : Fin 253, n.val ≠ 0 →
    IntOp.cmpi .eq (IntOp.shrsi .vector (BitVec.ofNat 32 (n.val * 2 ^ 23)) 23#32) 0#32 = 0#1
    ∧ IntOp.shli .vector (IntOp.addi (IntOp.subi (IntOp.shrsi .vector (BitVec.ofNat 32 (n.val * 2 ^ 23)) 23#32) 126#32) 127#32) 23#32
      = BitVec.ofNat 32 ((n.val + 1) * 2 ^ 23)
    ∧ IntOp.shli .vector (IntOp.addi (IntOp.subi 0#32 (IntOp.subi (IntOp.shrsi .vector (BitVec.ofNat 32 (n.val * 2 ^ 23)) 23#32) 126#32)) 127#32) 23#32
      = BitVec.ofNat 32 ((253 - n.val) * 2 ^ 23) := by decide +kernel

/-- The rounded `1 / 448`. -/
theorem third : Ideal.ofBits .f32 991054117#32 = ((9586981 * (2 : ℝ) ^ (-32 : ℤ) : ℝ) : EReal) := by
  simp [Ideal.ofBits, Ideal.ieee, -EReal.coe_mul]

/-- The largest finite bf16. -/
theorem bfmax : Ideal.ofBits .bf16 32639#16 = ((255 * (2 : ℝ) ^ (120 : ℤ) : ℝ) : EReal) := by
  simp [Ideal.ofBits, Ideal.ieee, -EReal.coe_mul]

/-- For every greatest magnitude `m` a group of finite bf16 can have, the kernel's scale, put together from the exponent
    field of `m / 448`, is the reference's, the least power of two above `m / 448`; and the kernel's reciprocal is `1` over it. -/
theorem scale_eq (m : EReal) (h0 : 0 ≤ m) (h1 : m ≤ Ideal.ofBits .bf16 32639#16) :
    kScale m (max (m * Ideal.ofBits .f32 991054117#32) (-(m * Ideal.ofBits .f32 991054117#32))) = rScale (m * Ideal.ofBits .f32 991054117#32)
    ∧ kInv m (max (m * Ideal.ofBits .f32 991054117#32) (-(m * Ideal.ofBits .f32 991054117#32)))
      = Ideal.div 1 (rScale (m * Ideal.ofBits .f32 991054117#32)) := by
  rw [bfmax] at h1
  rw [third]
  lift m to ℝ using ⟨ne_of_lt (lt_of_le_of_lt h1 (EReal.coe_lt_top _)), ne_of_gt (lt_of_lt_of_le EReal.bot_lt_zero h0)⟩
  rw [EReal.coe_le_coe_iff] at h1
  have h0' : (0 : ℝ) ≤ m := by exact_mod_cast h0
  rw [← EReal.coe_mul]
  set v : ℝ := m * (9586981 * (2 : ℝ) ^ (-32 : ℤ)) with hv
  have hc : (0 : ℝ) < 9586981 * (2 : ℝ) ^ (-32 : ℤ) := by positivity
  have hv0 : 0 ≤ v := mul_nonneg h0' hc.le
  have hv1 : v < (2 : ℝ) ^ (120 : ℤ) := by
    refine lt_of_le_of_lt (mul_le_mul_of_nonneg_right h1 hc.le) ?_
    norm_num
  have ha : max (v : EReal) (-(v : EReal)) = (v : EReal) := by
    refine max_eq_left ?_
    rw [← EReal.coe_neg, EReal.coe_le_coe_iff]
    linarith
  rw [ha]
  obtain ⟨n, hw, hn, hlo, hhi⟩ := word_spec (v : EReal) (by exact_mod_cast hv0) (EReal.coe_lt_top _)
  have hn' : n ≤ 246 := by
    by_contra hc'
    have h3 : p 247 ≤ (v : EReal) := (p_mono 247 n (by norm_num) (by omega) hn).trans hlo
    rw [p_mid 247 (by norm_num) (by norm_num), EReal.coe_le_coe_iff] at h3
    have : ((247 : ℕ) : ℤ) - 127 = 120 := by norm_num
    rw [this] at h3
    linarith
  rcases Nat.eq_zero_or_pos n with rfl | hpos
  · have hr : rScale (v : EReal) = 1 := by
      unfold rScale
      exact if_pos hhi
    have he : kExp (m : EReal) (v : EReal) = 0#32 := by
      unfold kExp
      rw [hw]
      split_ifs
      · rfl
      · decide +kernel
    have hone : p 127 = 1 := by
      rw [p_mid 127 (by norm_num) (by norm_num)]
      norm_num
    rw [hr]
    unfold kScale kInv
    rw [he]
    constructor
    · exact hone
    · refine Eq.trans (b := p 127) rfl ?_
      rw [hone]
      simp [Ideal.div]
  · have hvpos : (0 : ℝ) < v := by
      have := hlo
      rw [p_mid n hpos (by omega), EReal.coe_le_coe_iff] at this
      exact lt_of_lt_of_le (by positivity) this
    have hm : ¬ ((m : EReal) = 0) := by
      intro h
      have : m = 0 := by exact_mod_cast h
      rw [hv, this, zero_mul] at hvpos
      exact lt_irrefl _ hvpos
    obtain ⟨w1, w2, w3⟩ := words ⟨n, by omega⟩ (by simp only; omega)
    simp only at w1 w2 w3
    have he : kExp (m : EReal) (v : EReal) = IntOp.subi (IntOp.shrsi .vector (BitVec.ofNat 32 (n * 2 ^ 23)) 23#32) 126#32 := by
      unfold kExp
      rw [if_neg hm, hw, w1]
      rfl
    have hr := rScale_eq (v : EReal) n hpos (by omega) hlo hhi
    rw [hr]
    unfold kScale kInv
    rw [he, w2, w3]
    refine ⟨rfl, ?_⟩
    show p (253 - n) = Ideal.div 1 (p (n + 1))
    rw [p_mid _ (by omega) (by omega), p_mid _ (by omega) (by omega)]
    unfold Ideal.div
    rw [if_neg (by
      intro h
      have h' : ((2 : ℝ) ^ (((n + 1 : ℕ) : ℤ) - 127) : ℝ) = 0 := by exact_mod_cast h
      exact absurd h' (by positivity)), one_mul, ← EReal.coe_inv, ← zpow_neg]
    congr 2
    omega

/-- The greatest magnitude of a group. -/
def amax (f : Fin 128 → EReal) : EReal :=
  Finset.fold max (Ideal.ofBits .f32 4286578688#32) (fun k => FloatOps.absf (F := Ideal) (φ := .f32) (f k)) Finset.univ

/-- A group's scale: the least power of two above its greatest magnitude times the rounded `1 / 448`. -/
def gScale (f : Fin 128 → EReal) : EReal := rScale (amax f * Ideal.ofBits .f32 991054117#32)

/-- A group's codes: its entries over the scale, clipped to `±448`. -/
def gCode (f : Fin 128 → EReal) (l : Fin 128) : EReal :=
  min (Ideal.ofBits .f32 1138753536#32) (max (Ideal.ofBits .f32 3286237184#32) (f l * Ideal.div 1 (gScale f)))

theorem amax_nonneg (f : Fin 128 → EReal) : 0 ≤ amax f := by
  have h : max (f 0) (-(f 0)) ≤ amax f := (Finset.le_fold_max _).mpr (.inr ⟨0, Finset.mem_univ _, le_rfl⟩)
  refine le_trans ?_ h
  rcases le_total 0 (f 0) with h0 | h0
  · exact le_max_of_le_left h0
  · exact le_max_of_le_right (by simpa using EReal.neg_le_neg_iff.mpr h0)

theorem amax_le (f : Fin 128 → EReal) (h : ∀ k, max (f k) (-(f k)) ≤ Ideal.ofBits .bf16 32639#16) :
    amax f ≤ Ideal.ofBits .bf16 32639#16 := by
  refine (Finset.fold_max_le _).mpr ⟨?_, fun k _ => h k⟩
  refine le_trans (b := (⊥ : EReal)) (le_of_eq ?_) bot_le
  simp [Ideal.ofBits, Ideal.ieee]

/-- The kernel's scale of a group of finite bf16 is the group's scale, and its reciprocal is `1` over it. -/
theorem group_scale (f : Fin 128 → EReal) (h : ∀ k, max (f k) (-(f k)) ≤ Ideal.ofBits .bf16 32639#16) :
    kScale (amax f) (FloatOps.absf (F := Ideal) (φ := .f32) (amax f * Ideal.ofBits .f32 991054117#32)) = gScale f
    ∧ kInv (amax f) (FloatOps.absf (F := Ideal) (φ := .f32) (amax f * Ideal.ofBits .f32 991054117#32)) = Ideal.div 1 (gScale f) :=
  scale_eq (amax f) (amax_nonneg f) (amax_le f h)

/-- Group `g` of a token `X`. -/
def group (X : Fin 5120 → EReal) (g : Fin 40) (l : Fin 128) : EReal := X ⟨g.val * 128 + l.val, by omega⟩

/-- A token's code in column `l`. -/
def codeOf (X : Fin 5120 → EReal) (l : Fin 5120) : EReal := gCode (group X ⟨l.val / 128, by omega⟩) ⟨l.val % 128, by omega⟩

/-- A token's scale of group `g`. -/
def scaleOf (X : Fin 5120 → EReal) (g : Fin 40) : EReal := gScale (group X g)

/-- One entry of the product: token `X`, weight row `W`, that row's scales `SW` and bias `b`. -/
def dotOf (X W : Fin 5120 → EReal) (SW : Fin 40 → EReal) (b : EReal) : EReal :=
  ∑ g : Fin 40, (∑ k : Fin 128, gCode (group X g) k * W ⟨g.val * 128 + k.val, by omega⟩) * gScale (group X g) * SW g + b

/-- No entry of the token is larger in magnitude than the largest finite bf16. -/
def Finite (X : Fin 5120 → EReal) : Prop := ∀ l, max (X l) (-(X l)) ≤ Ideal.ofBits .bf16 32639#16

end Cert.Scale

end
-- ==== Proof.KernelScale.lean ====
module

public import proofs.«01_k».proof.Proof.Gen.KernelIdeal.Value
public import proofs.«01_k».proof.Proof.KernelLoop
public import proofs.«01_k».proof.Proof.Scale
public import Idealize.ShloMosaic.Lib.Pipeline.ValueKit

@[expose] public section

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat)

/-- One step of the search for the exponent field, on a column of 256 tokens. -/
def sstep (a : FVec Ideal S256x1 .f32) (b : BitVec 32) (w : IVec S256x1 32) : IVec S256x1 32 :=
  select (cmpf .olt a (bitcastToFloat .f32 (addi w (broadcast S256x1 b)))) w (addi w (broadcast S256x1 b))

/-- The search for the exponent field, on a column. -/
def sword (a : FVec Ideal S256x1 .f32) : IVec S256x1 32 :=
  sstep a 8388608#32 (sstep a 16777216#32 (sstep a 33554432#32 (sstep a 67108864#32 (sstep a 134217728#32
    (sstep a 268435456#32 (sstep a 536870912#32 (sstep a 1073741824#32 (broadcast S256x1 0#32))))))))

/-- The exponent from the greatest magnitudes `m` and the search's word `w`, on a column. -/
def sexp (m : FVec Ideal S256x1 .f32) (w : IVec S256x1 32) : IVec S256x1 32 :=
  select (cmpf .oeq m (broadcast S256x1 (Scalar.ofBits .f32 0x00000000#32))) (broadcast S256x1 0#32)
    (select (cmpi .eq (shrsi w (broadcast S256x1 23#32)) (broadcast S256x1 0#32)) (broadcast S256x1 0#32)
      (subi (shrsi w (broadcast S256x1 23#32)) (broadcast S256x1 126#32)))

/-- The scale from the exponent `e`, on all lanes. -/
def sscl (e : IVec S256x1 32) : FVec Ideal S256x128 .f32 :=
  broadcastTo S256x128 (shapeCast S256x1 (bitcastToFloat .f32 (shli (addi e (broadcast S256x1 127#32)) (broadcast S256x1 23#32)) : FVec Ideal S256x1 .f32)
    shapeCasts_S256x1_S256x1) broadcasts_S256x1_S256x128

/-- The codes from the group `x` and the exponent `e`. -/
def scod (x : FVec Ideal S256x128 .f32) (e : IVec S256x1 32) : FVec Ideal S256x128 .fp8e4m3 :=
  truncf .fp8e4m3 (minimumf (broadcast S256x128 (Scalar.ofBits .f32 0x43E00000#32)) (maximumf (broadcast S256x128 (Scalar.ofBits .f32 0xC3E00000#32))
    (mulf x (broadcastTo S256x128 (bitcastToFloat .f32 (shli (addi (subi (broadcast S256x1 0#32) e) (broadcast S256x1 127#32)) (broadcast S256x1 23#32)) : FVec Ideal S256x1 .f32)
      broadcasts_S256x1_S256x128)))) bitsLt_fp8e4m3_f32

theorem pay43_eq (v : Vec Ideal S256x128 .bf16) :
    k0_pay43 (k0_pay38 v) (k0_pay39 v) (k0_pay40 v) (k0_pay41 v) (k0_pay42 v) = sexp (k0_pay38 v) (sword (k0_pay39 v)) := rfl

theorem scl_eq (v : Vec Ideal S256x128 .bf16) : scl v = sscl (k0_pay43 (k0_pay38 v) (k0_pay39 v) (k0_pay40 v) (k0_pay41 v) (k0_pay42 v)) := rfl

theorem cod_eq (v : Vec Ideal S256x128 .bf16) :
    cod v = scod (k0_pay37 v) (k0_pay43 (k0_pay38 v) (k0_pay39 v) (k0_pay40 v) (k0_pay41 v) (k0_pay42 v)) := rfl

theorem sstep_at (a : FVec Ideal S256x1 .f32) (b : BitVec 32) (w : IVec S256x1 32) (j : S256x1.Idx) :
    sstep a b w j = Cert.Scale.step (a j) b (w j) := by
  pointwise [sstep]
  rfl

theorem sword_at (a : FVec Ideal S256x1 .f32) (j : S256x1.Idx) : sword a j = Cert.Scale.word (a j) := by
  unfold sword Cert.Scale.word
  simp only [sstep_at]
  rfl

theorem sexp_at (m : FVec Ideal S256x1 .f32) (a : FVec Ideal S256x1 .f32) (j : S256x1.Idx) :
    sexp m (sword a) j = Cert.Scale.kExp (m j) (a j) := by
  rw [Cert.Scale.kExp, ← sword_at]
  generalize sword a = w
  pointwise [sexp]

theorem sscl_at (e : IVec S256x1 32) (r : Fin 256) (l : Fin 128) :
    sscl e (ix2 r l) = Ideal.ofBits .f32 (IntOp.shli .vector (IntOp.addi (e (ix2 r 0)) 127#32) 23#32) := by
  pointwise [sscl]

theorem scod_at (x : FVec Ideal S256x128 .f32) (e : IVec S256x1 32) (r : Fin 256) (l : Fin 128) :
    scod x e (ix2 r l) = (min (Ideal.ofBits .f32 1138753536#32) (max (Ideal.ofBits .f32 3286237184#32)
      (x (ix2 r l) * Ideal.ofBits .f32 (IntOp.shli .vector (IntOp.addi (IntOp.subi 0#32 (e (ix2 r 0))) 127#32) 23#32))) : EReal) := by
  pointwise [scod]

theorem pay37_at (v : Vec Ideal S256x128 .bf16) (r : Fin 256) (l : Fin 128) : k0_pay37 v (ix2 r l) = v (ix2 r l) := by
  pointwise [k0_pay37]

/-- The kernel's greatest magnitude of a group. -/
theorem pay38_at (v : Vec Ideal S256x128 .bf16) (r : Fin 256) : k0_pay38 v (ix2 r 0) = Cert.Scale.amax (fun l => v (ix2 r l)) := by
  pointwise [k0_pay38, k0_pay37]
  rfl

theorem pay39_at (v : Vec Ideal S256x128 .bf16) (r : Fin 256) :
    k0_pay39 v (ix2 r 0) = FloatOps.absf (F := Ideal) (φ := .f32) (Cert.Scale.amax (fun l => v (ix2 r l)) * Ideal.ofBits .f32 991054117#32 : EReal) := by
  rw [← pay38_at]
  generalize hm : k0_pay38 v = m
  unfold k0_pay39
  rw [hm]
  rfl

/-- A group of finite entries: none is larger in magnitude than the largest finite bf16. -/
def Bounded (v : Vec Ideal S256x128 .bf16) (r : Fin 256) : Prop :=
  ∀ l : Fin 128, max (v (ix2 r l) : EReal) (-(v (ix2 r l) : EReal)) ≤ Ideal.ofBits .bf16 32639#16

/-- The kernel's scale of a token's group is the group's scale, on every lane. -/
theorem scl_at (v : Vec Ideal S256x128 .bf16) (r : Fin 256) (l : Fin 128) (h : Bounded v r) :
    scl v (ix2 r l) = Cert.Scale.gScale (fun k => v (ix2 r k)) := by
  rw [← (Cert.Scale.group_scale _ h).1, scl_eq, sscl_at, pay43_eq, sexp_at, pay38_at, pay39_at]
  rfl

/-- The kernel's codes of a token's group are the group's codes. -/
theorem cod_at (v : Vec Ideal S256x128 .bf16) (r : Fin 256) (l : Fin 128) (h : Bounded v r) :
    cod v (ix2 r l) = Cert.Scale.gCode (fun k => v (ix2 r k)) l := by
  rw [Cert.Scale.gCode, ← (Cert.Scale.group_scale _ h).2, cod_eq, scod_at, pay43_eq, sexp_at, pay38_at, pay39_at, pay37_at]
  rfl

/-- Lane `l` of the tile of scales, after `n` groups, has group `l`'s scale if that group has been met. -/
theorem chain_at (b : Nat → Vec Ideal S256x128 .bf16) (n : Nat) (hn : n ≤ 40) (r : Fin 256) (l : Fin 128) (h : l.val < n) :
    chain b n (ix2 r l) = scl (b l.val) (ix2 r l) := by
  induction n with
  | zero => omega
  | succ n ih =>
    have hl : lanes (ix2 r l) = BitVec.ofNat 32 l.val := by pointwise [lanes]
    show Scalar.select (IntOp.cmpi .eq (lanes (ix2 r l)) (BitVec.ofNat 32 n)) (scl (b n) (ix2 r l)) (chain b n (ix2 r l)) = _
    rw [hl]
    by_cases e : l.val = n
    · rw [e]
      simp [Scalar.select, IntOp.cmpi]
    · rw [ih (by omega) (by omega)]
      have hne : ¬ BitVec.ofNat 32 l.val = BitVec.ofNat 32 n := by
        intro hc
        have := congrArg BitVec.toNat hc
        simp only [BitVec.toNat_ofNat] at this
        omega
      have hb : (BitVec.ofNat 32 l.val == BitVec.ofNat 32 n) = false := by simpa using hne
      simp [Scalar.select, IntOp.cmpi, hb]

/-- The accumulator after `n` trips is the sum of what the trips add. -/
theorem acc_at (W : FVec Ideal S3456x5120 .fp8e4m3) (C : FVec Ideal S256x5120 .fp8e4m3) (T : FVec Ideal S128x256 .f32) (SW : FVec Ideal S27x40 .f32)
    (n : Nat) (o : Fin 3456) (r : Fin 256) :
    acc W C T SW (k0_pay421 (F := Ideal)) n (ix2 o r) = (∑ g ∈ Finset.range n, part W C g o r
      * (T (ix2 ⟨g % 128, Nat.mod_lt _ (by norm_num)⟩ r) * SW (ix2 ⟨o.val / 128, by omega⟩ ⟨g % 40, Nat.mod_lt _ (by norm_num)⟩)) : EReal) := by
  induction n with
  | zero =>
    rw [Finset.range_zero, Finset.sum_empty]
    show k0_pay421 (F := Ideal) (ix2 o r) = (0 : EReal)
    pointwise [k0_pay421]
  | succ n ih =>
    rw [Finset.sum_range_succ, ← ih]
    rfl

theorem pay424_at (A : Vec Ideal S3456x256 .f32) (b : Vec Ideal S1x3456 .f32) (r : Fin 256) (o : Fin 3456) :
    k0_pay424 A b (ix2 r o) = (A (ix2 o r) + b (ix2 0 o) : EReal) := by
  pointwise [k0_pay424]

theorem turn_at (A : FVec Ideal S256x128 .f32) (l : Fin 128) (r : Fin 256) :
    transpose S128x256 [1, 0] A transposes_S256x128_p1_0_S128x256 (ix2 l r) = A (ix2 r l) := by
  pointwise []

theorem slice_at (A : FVec Ideal S256x128 .f32) (r : Fin 256) (g : Fin 40) :
    extractStridedSlice S256x40 ![0, 0] A slices_S256x128_o0_0_S256x40 (ix2 r g) = A (ix2 r ⟨g.val, by omega⟩) := by
  pointwise []

/-- The token in row `r` of a block. -/
def token (x1 : Vec Ideal S256x5120 .bf16) (r : Fin 256) (l : Fin 5120) : EReal := x1 (ix2 r l)

theorem grp_at (x1 : Vec Ideal S256x5120 .bf16) (r : Fin 256) (g : Fin 40) :
    (fun k : Fin 128 => (grp x1 g.val (ix2 r k) : EReal)) = Cert.Scale.group (token x1 r) g := by
  funext k
  unfold grp Cert.Scale.group token
  congr 1
  funext a
  apply Fin.ext
  have hg := g.isLt
  have hk := k.isLt
  match a with
  | 0 => rfl
  | 1 =>
    show (128 * g.val + k.val) % 5120 = g.val * 128 + k.val
    omega

theorem grp_bounded (x1 : Vec Ideal S256x5120 .bf16) (r : Fin 256) (h : Cert.Scale.Finite (token x1 r)) (g : Nat) : Bounded (grp x1 g) r :=
  fun _ => h _

/-- Codes of a block's token. -/
theorem codes_at (x1 : Vec Ideal S256x5120 .bf16) (r : Fin 256) (h : Cert.Scale.Finite (token x1 r)) (l : Fin 5120) :
    codes x1 (ix2 r l) = Cert.Scale.codeOf (token x1 r) l := by
  show cod (grp x1 (l.val / 128)) (ix2 r ⟨l.val % 128, _⟩) = _
  rw [cod_at _ _ _ (grp_bounded x1 r h _), grp_at x1 r ⟨l.val / 128, by omega⟩]
  rfl

/-- Scales of a block's token. -/
theorem scales_at (x1 : Vec Ideal S256x5120 .bf16) (r : Fin 256) (h : Cert.Scale.Finite (token x1 r)) (g : Fin 40) (l : Fin 128) (hl : l.val = g.val) :
    chain (grp x1) 40 (ix2 r l) = Cert.Scale.scaleOf (token x1 r) g := by
  rw [chain_at _ 40 le_rfl r l (by omega), scl_at _ _ _ (grp_bounded x1 r h _), hl, grp_at x1 r g]
  rfl

/-- Group `g`'s product with a weight row, in the reference's order of factors. -/
theorem part_at (W : FVec Ideal S3456x5120 .fp8e4m3) (x1 : Vec Ideal S256x5120 .bf16) (g : Fin 40) (o : Fin 3456) (r : Fin 256)
    (h : Cert.Scale.Finite (token x1 r)) :
    part W (codes x1) g.val o r
      = ∑ k : Fin 128, Cert.Scale.gCode (Cert.Scale.group (token x1 r) g) k * W (ix2 o ⟨g.val * 128 + k.val, by omega⟩) := by
  unfold part
  refine Finset.sum_congr rfl fun k _ => ?_
  have hk := k.isLt
  have hg := g.isLt
  have e : (⟨(128 * g.val + k.val) % 5120, Nat.mod_lt _ (by norm_num)⟩ : Fin 5120) = ⟨g.val * 128 + k.val, by omega⟩ := by
    apply Fin.ext; show (128 * g.val + k.val) % 5120 = g.val * 128 + k.val; omega
  rw [e, codes_at x1 r h, mul_comm]
  congr 1
  unfold Cert.Scale.codeOf
  have e1 : (⟨(g.val * 128 + k.val) / 128, by omega⟩ : Fin 40) = g := by apply Fin.ext; show (g.val * 128 + k.val) / 128 = g.val; omega
  have e2 : (⟨(g.val * 128 + k.val) % 128, by omega⟩ : Fin 128) = k := by apply Fin.ext; show (g.val * 128 + k.val) % 128 = k.val; omega
  simp only [e1, e2]

/-- The first result of a block's token. -/
theorem y_at (x0 : Vec Ideal S27x40 .f32) (x1 : Vec Ideal S256x5120 .bf16) (x2 : Vec Ideal S3456x5120 .fp8e4m3) (x3 : Vec Ideal S1x3456 .f32)
    (r : Fin 256) (h : Cert.Scale.Finite (token x1 r)) (o : Fin 3456) :
    k0_pay424 (acc x2 (codes x1) (transpose S128x256 [1, 0] (chain (grp x1) 40) transposes_S256x128_p1_0_S128x256) x0 (k0_pay421 (F := Ideal)) 40) x3 (ix2 r o)
      = Cert.Scale.dotOf (token x1 r) (fun k => x2 (ix2 o k)) (fun g => x0 (ix2 ⟨o.val / 128, by omega⟩ g)) (x3 (ix2 0 o)) := by
  rw [pay424_at, acc_at, Finset.sum_range]
  unfold Cert.Scale.dotOf
  congr 1
  refine Finset.sum_congr rfl fun g _ => ?_
  have hg := g.isLt
  have e : (⟨g.val % 40, Nat.mod_lt _ (by norm_num)⟩ : Fin 40) = g := by apply Fin.ext; show g.val % 40 = g.val; omega
  rw [part_at x2 x1 g o r h, turn_at, scales_at x1 r h g _ (by show g.val % 128 = _; omega), e, ← mul_assoc]
  rfl

end Cert.KernelIdeal.KV

end
-- ==== Proof.KernelArrays.lean ====
module

public import proofs.«01_k».proof.Proof.Gen.KernelIdeal.Value
public import proofs.«01_k».proof.Proof.KernelScale
public import Idealize.ShloMosaic.Lib.Pipeline.ValueKit

@[expose] public section

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Point `t` takes tokens `256 * t` on, and all of the other operands. -/
theorem idx : ∀ t : Fin cfg0.N, win0_0.index t = ![0, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

/-- Token `r` of the argument. -/
def tok (c : Dev nD) (r : Fin 8192) (l : Fin 5120) : EReal := m ((c : Thread nD τ).loc main_arg0) (ix3 0 r l)

theorem tok_block (c : Dev nD) (t : Fin cfg0.N) (r : Fin 256) (r' : Fin 8192) (h : r'.val = 256 * t.val + r.val) :
    token (iblk m c 1 t) r = tok m c r' := by
  have hlt : 256 * t.val + r.val < 8192 := h ▸ r'.isLt
  obtain rfl : r' = ⟨256 * t.val + r.val, hlt⟩ := Fin.ext h
  funext l
  unfold token tok
  blk_point [iblk, V, idx t]

theorem weight_block (c : Dev nD) (t : Fin cfg0.N) (o : Fin 3456) (k : Fin 5120) :
    iblk m c 2 t (ix2 o k) = m ((c : Thread nD τ).loc main_arg1) (ix2 o k) := by
  blk_point [iblk, V, idx t]

theorem wscale_block (c : Dev nD) (t : Fin cfg0.N) (o : Fin 27) (g : Fin 40) :
    iblk m c 0 t (ix2 o g) = m ((c : Thread nD τ).loc main_arg2) (ix2 o g) := by
  blk_point [iblk, V, idx t]

theorem bias_block (c : Dev nD) (t : Fin cfg0.N) (o : Fin 3456) :
    iblk m c 3 t (ix2 0 o) = m ((c : Thread nD τ).loc main_arg3) (ix1 o) := by
  blk_point [iblk, V, idx t]

/-- Entry `(r, o)` of the product, from the arguments. -/
def product (c : Dev nD) (r : Fin 8192) (o : Fin 3456) : EReal :=
  Cert.Scale.dotOf (tok m c r) (fun k => m ((c : Thread nD τ).loc main_arg1) (ix2 o k))
    (fun g => m ((c : Thread nD τ).loc main_arg2) (ix2 ⟨o.val / 128, by omega⟩ g)) (m ((c : Thread nD τ).loc main_arg3) (ix1 o))

/-- What a grid point leaves in its block of the first result. -/
theorem point_y (c : Dev nD) (h : ∀ r, Cert.Scale.Finite (tok m c r)) (t : Fin cfg0.N) (y : S256x3456.Idx) (R : Fin 8192) (L : Fin 3456)
    (hR : R.val = 256 * t.val + (y 0).val) (hL : L.val = (y 1).val) : (outsAt0 m c t).1 y = product m c R L := by
  obtain rfl : L = y 1 := Fin.ext hL
  have hb := tok_block m c t (y 0) R hR
  simp only [outsAt0]
  rw [out_y, eq_ix2 y]
  refine (y_at (iblk m c 0 t) (iblk m c 1 t) (iblk m c 2 t) (iblk m c 3 t) (y 0) (hb ▸ h R) (y 1)).trans ?_
  rw [hb]
  exact congr (congr (congrArg (Cert.Scale.dotOf (tok m c R)) (funext fun k => weight_block m c t (y 1) k))
    (funext fun g => wscale_block m c t ⟨(y 1).val / 128, by have : (y 1).val < 3456 := (y 1).isLt; omega⟩ g)) (bias_block m c t (y 1))

/-- What a grid point leaves in its block of the second result. -/
theorem point_codes (c : Dev nD) (h : ∀ r, Cert.Scale.Finite (tok m c r)) (t : Fin cfg0.N) (y : S256x5120.Idx) (R : Fin 8192) (L : Fin 5120)
    (hR : R.val = 256 * t.val + (y 0).val) (hL : L.val = (y 1).val) : (outsAt0 m c t).2.1 y = Cert.Scale.codeOf (tok m c R) L := by
  obtain rfl : L = y 1 := Fin.ext hL
  have hb := tok_block m c t (y 0) R hR
  simp only [outsAt0]
  rw [out_codes, eq_ix2 y]
  refine (codes_at (iblk m c 1 t) (y 0) (hb ▸ h R) (y 1)).trans ?_
  rw [hb]
  rfl

/-- What a grid point leaves in its block of the third result. -/
theorem point_scales (c : Dev nD) (h : ∀ r, Cert.Scale.Finite (tok m c r)) (t : Fin cfg0.N) (y : S256x40.Idx) (R : Fin 8192) (L : Fin 40)
    (hR : R.val = 256 * t.val + (y 0).val) (hL : L.val = (y 1).val) : (outsAt0 m c t).2.2 y = Cert.Scale.scaleOf (tok m c R) L := by
  obtain rfl : L = y 1 := Fin.ext hL
  have hb := tok_block m c t (y 0) R hR
  simp only [outsAt0]
  rw [out_scales, eq_ix2 y]
  refine (slice_at _ (y 0) (y 1)).trans ?_
  refine (scales_at (iblk m c 1 t) (y 0) (hb ▸ h R) (y 1) _ rfl).trans ?_
  rw [hb]
  rfl

/-- The first result of the kernel. -/
theorem final_y (c : Dev nD) (h : ∀ r, Cert.Scale.Finite (tok m c r)) : (dats m 0 c).arrAt 4 cfg0.N = fun y => product m c (y 0) (y 1) := by
  refine (dats m 0 c).arrAt_eq_of_covers 4 _ (by decide +kernel) fun t _ y => ?_
  blk_simp
  rw [after0_4]
  refine point_y m c h t y _ _ ?_ ?_
  · blk_simp
    simp [idx t, mul_comm]
  · blk_simp
    simp [idx t]

/-- The second result of the kernel. -/
theorem final_codes (c : Dev nD) (h : ∀ r, Cert.Scale.Finite (tok m c r)) : (dats m 0 c).arrAt 5 cfg0.N = fun y => Cert.Scale.codeOf (tok m c (y 0)) (y 1) := by
  refine (dats m 0 c).arrAt_eq_of_covers 5 _ (by decide +kernel) fun t _ y => ?_
  blk_simp
  rw [after0_5]
  refine point_codes m c h t y _ _ ?_ ?_
  · blk_simp
    simp [idx t, mul_comm]
  · blk_simp
    simp [idx t]

/-- The third result of the kernel. -/
theorem final_scales (c : Dev nD) (h : ∀ r, Cert.Scale.Finite (tok m c r)) : (dats m 0 c).arrAt 6 cfg0.N = fun y => Cert.Scale.scaleOf (tok m c (y 0)) (y 1) := by
  refine (dats m 0 c).arrAt_eq_of_covers 6 _ (by decide +kernel) fun t _ y => ?_
  blk_simp
  rw [after0_6]
  refine point_scales m c h t y _ _ ?_ ?_
  · blk_simp
    simp [idx t, mul_comm]
  · blk_simp
    simp [idx t]

end Cert.KernelIdeal.KV

end
-- ==== Proof.RefGroups.lean ====
module

public import proofs.«01_k».proof.Proof.Gen.ReferenceIdeal.Value
public import Idealize.ShloMosaic.Lib.Pipeline.ValueKit
public import proofs.«01_k».proof.Proof.Scale

@[expose] public section

set_option maxRecDepth 16384

noncomputable section

namespace Cert.ReferenceIdeal.KV

open Cert.ReferenceIdeal Cert.ReferenceIdeal.Gen Idealize.ShloMosaic Idealize.ShloMosaic.TcCoe Idealize.SL.Sem
open Idealize.ShloMosaic.Pipeline (Dat)

/-- The greatest magnitude of a token's group. -/
def refAmax (X : FVec Ideal S8192x40x128 .f32) : FVec Ideal S8192x40 .f32 :=
  multiReduction .maximumf [2] S8192x40 (absf X) 0xFF800000#32 reduces_S8192x40x128_S8192x40 (.inl rfl) rfl

/-- `amax / 448` of a token's group: the greatest magnitude times the rounded `1 / 448`. -/
def refV (A : FVec Ideal S8192x40 .f32) : FVec Ideal S8192x40 .f32 :=
  mulf A (broadcast S8192x40 (Scalar.ofBits .f32 0x3B124925#32))

/-- The powers of two from `2 ^ (-125)` to `2 ^ 127`, along the last axis. -/
def refPower : FVec Ideal S8192x40x253 .f32 :=
  exp2 (sitofp .f32 (subi (iota .tc S8192x40x253 32 [2] iota_S8192x40x253_d2_w32) (broadcast S8192x40x253 125#32)))

/-- A power of two where it is above `V`, infinity elsewhere. -/
def refKept (V : FVec Ideal S8192x40 .f32) (P : FVec Ideal S8192x40x253 .f32) : FVec Ideal S8192x40x253 .f32 :=
  select (cmpf .ogt P (broadcastTo S8192x40x253 (shapeCast S8192x40x1 V shapeCasts_S8192x40_S8192x40x1) broadcasts_S8192x40x1_S8192x40x253)) P
    (broadcast S8192x40x253 (Scalar.ofBits .f32 0x7F800000#32))

/-- The least along the last axis. -/
def refLeast (K : FVec Ideal S8192x40x253 .f32) : FVec Ideal S8192x40 .f32 :=
  multiReduction .minimumf [2] S8192x40 K 0x7F800000#32 reduces_S8192x40x253_S8192x40 (.inl rfl) rfl

/-- The reference's choice of the scale: 1 below the normal floats, the least kept power elsewhere. -/
def refScale (V : FVec Ideal S8192x40 .f32) (M : FVec Ideal S8192x40 .f32) : FVec Ideal S8192x40 .f32 :=
  select (cmpf .olt V (broadcast S8192x40 (Scalar.ofBits .f32 0x00800000#32))) (broadcast S8192x40 (Scalar.ofBits .f32 0x3F800000#32)) M

/-- The reference's codes from the groups and the scales. -/
def refCodes (X : FVec Ideal S8192x40x128 .f32) (S : FVec Ideal S8192x40 .f32) : FVec Ideal S8192x40x128 .fp8e4m3 :=
  truncf .fp8e4m3 (minimumf (broadcast S8192x40x128 (Scalar.ofBits .f32 0x43E00000#32))
    (maximumf (broadcast S8192x40x128 (Scalar.ofBits .f32 0xC3E00000#32))
      (mulf X (broadcastTo S8192x40x128 (shapeCast S8192x40x1 (divf (broadcast S8192x40 (Scalar.ofBits .f32 0x3F800000#32)) S)
        shapeCasts_S8192x40_S8192x40x1) broadcasts_S8192x40x1_S8192x40x128)))) bitsLt_fp8e4m3_f32

theorem pay3_eq (v : Vec Ideal S8192x5120 .bf16) : k0_pay3 v = refScale (refV (refAmax (k0_pay2 v))) (refLeast (refKept (refV (refAmax (k0_pay2 v))) refPower)) := rfl

theorem pay4_eq (v : Vec Ideal S8192x5120 .bf16) : k0_pay4 v = refCodes (k0_pay2 v) (k0_pay3 v) := rfl

theorem pay2_at (v : Vec Ideal S8192x5120 .bf16) (r : Fin 8192) (g : Fin 40) (l : Fin 128) :
    k0_pay2 v (ix3 r g l) = v (ix2 r ⟨g.val * 128 + l.val, by omega⟩) := by
  pointwise [k0_pay2]

theorem refAmax_at (X : FVec Ideal S8192x40x128 .f32) (r : Fin 8192) (g : Fin 40) :
    refAmax X (ix2 r g) = Cert.Scale.amax (fun l => X (ix3 r g l)) := by
  pointwise [refAmax]
  rfl

theorem refV_at (A : FVec Ideal S8192x40 .f32) (r : Fin 8192) (g : Fin 40) :
    refV A (ix2 r g) = (A (ix2 r g) * Ideal.ofBits .f32 991054117#32 : EReal) := by
  pointwise [refV]

theorem refPower_at (r : Fin 8192) (g : Fin 40) (k : Fin 253) : refPower (ix3 r g k) = Cert.Scale.power k := by
  pointwise [refPower]
  rfl

theorem refKept_at (V : FVec Ideal S8192x40 .f32) (P : FVec Ideal S8192x40x253 .f32) (r : Fin 8192) (g : Fin 40) (k : Fin 253) :
    refKept V P (ix3 r g k) = (if (V (ix2 r g) : EReal) < P (ix3 r g k) then (P (ix3 r g k) : EReal) else Ideal.ofBits .f32 2139095040#32) := by
  pointwise [refKept]

theorem refLeast_at (K : FVec Ideal S8192x40x253 .f32) (r : Fin 8192) (g : Fin 40) :
    refLeast K (ix2 r g) = Finset.fold min (Ideal.ofBits .f32 2139095040#32) (fun k : Fin 253 => (K (ix3 r g k) : EReal)) Finset.univ := by
  pointwise [refLeast]

theorem refScale_at (V M : FVec Ideal S8192x40 .f32) (r : Fin 8192) (g : Fin 40) :
    refScale V M (ix2 r g) = (if (V (ix2 r g) : EReal) < Ideal.ofBits .f32 8388608#32 then (1 : EReal) else M (ix2 r g)) := by
  pointwise [refScale]

theorem refCodes_at (X : FVec Ideal S8192x40x128 .f32) (S : FVec Ideal S8192x40 .f32) (r : Fin 8192) (g : Fin 40) (l : Fin 128) :
    refCodes X S (ix3 r g l) = (min (Ideal.ofBits .f32 1138753536#32) (max (Ideal.ofBits .f32 3286237184#32)
      (X (ix3 r g l) * Ideal.div 1 (S (ix2 r g)))) : EReal) := by
  pointwise [refCodes]

/-- Group `g` of token `r`. -/
def row (v : Vec Ideal S8192x5120 .bf16) (r : Fin 8192) (g : Fin 40) (l : Fin 128) : EReal := v (ix2 r ⟨g.val * 128 + l.val, by omega⟩)

/-- The reference's scale of a token's group is the group's scale. -/
theorem pay3_at (v : Vec Ideal S8192x5120 .bf16) (r : Fin 8192) (g : Fin 40) : k0_pay3 v (ix2 r g) = Cert.Scale.gScale (row v r g) := by
  have hX : (fun l => k0_pay2 v (ix3 r g l)) = row v r g := funext fun l => pay2_at v r g l
  have hK : (fun k : Fin 253 => (refKept (refV (refAmax (k0_pay2 v))) refPower (ix3 r g k) : EReal))
      = fun k => if Cert.Scale.amax (row v r g) * Ideal.ofBits .f32 991054117#32 < Cert.Scale.power k then Cert.Scale.power k
          else Ideal.ofBits .f32 2139095040#32 := by
    funext k
    rw [refKept_at, refV_at, refAmax_at, refPower_at, hX]
  rw [pay3_eq, refScale_at, refV_at, refAmax_at, refLeast_at, hK, hX]
  rfl

/-- The reference's codes of a token's group are the group's codes. -/
theorem pay4_at (v : Vec Ideal S8192x5120 .bf16) (r : Fin 8192) (g : Fin 40) (l : Fin 128) :
    k0_pay4 v (ix3 r g l) = Cert.Scale.gCode (row v r g) l := by
  rw [pay4_eq, refCodes_at, pay2_at, pay3_at]
  rfl

/-- The reference's second result. -/
theorem pay5_at (v : Vec Ideal S8192x5120 .bf16) (r : Fin 8192) (l : Fin 5120) :
    k0_pay5 v (ix2 r l) = Cert.Scale.gCode (row v r ⟨l.val / 128, by omega⟩) ⟨l.val % 128, by omega⟩ := by
  rw [← pay4_at]
  pointwise [k0_pay5]

/-- The reference's first result: the product of codes and weights group by group, each scaled by both scales, and the bias. -/
theorem pay1_at (v : Vec Ideal S8192x5120 .bf16) (w : Vec Ideal S3456x5120 .fp8e4m3) (sw : Vec Ideal S27x40 .f32) (b : Vec Ideal S1x3456 .f32)
    (r : Fin 8192) (o : Fin 3456) :
    k0_pay1 (k0_pay3 v) (k0_pay6 v) (k0_pay7 w) sw b (ix2 r o)
      = (∑ g : Fin 40, (∑ k : Fin 128, Cert.Scale.gCode (row v r g) k * w (ix2 o ⟨g.val * 128 + k.val, by omega⟩))
          * Cert.Scale.gScale (row v r g) * sw (ix2 ⟨o.val / 128, by omega⟩ g) + b (ix2 0 o) : EReal) := by
  simp only [← pay4_at, ← pay3_at]
  pointwise [k0_pay1, k0_pay6, k0_pay7]

end Cert.ReferenceIdeal.KV

end
-- ==== Proof.RefArrays.lean ====
module

public import proofs.«01_k».proof.Proof.Gen.ReferenceIdeal.Value
public import proofs.«01_k».proof.Proof.RefGroups
public import Idealize.ShloMosaic.Lib.Pipeline.ValueKit

@[expose] public section

set_option maxRecDepth 16384

noncomputable section

namespace Cert.ReferenceIdeal.KV

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

/-- The one point takes every operand whole. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- Token `r` of the argument. -/
def tok (c : Dev nD) (r : Fin 8192) (l : Fin 5120) : EReal := m ((c : Thread nD τ).loc main_arg0) (ix3 0 r l)

theorem tok_block (c : Dev nD) (t : Fin cfg0.N) (r : Fin 8192) (g : Fin 40) : row (iblk m c 0 t) r g = Cert.Scale.group (tok m c r) g := by
  funext l
  unfold row Cert.Scale.group tok
  blk_point [iblk, V, idx t]

theorem weight_block (c : Dev nD) (t : Fin cfg0.N) (o : Fin 3456) (k : Fin 5120) :
    iblk m c 1 t (ix2 o k) = m ((c : Thread nD τ).loc main_arg1) (ix2 o k) := by
  blk_point [iblk, V, idx t]

theorem wscale_block (c : Dev nD) (t : Fin cfg0.N) (o : Fin 27) (g : Fin 40) :
    iblk m c 2 t (ix2 o g) = m ((c : Thread nD τ).loc main_arg2) (ix2 o g) := by
  blk_point [iblk, V, idx t]

theorem bias_block (c : Dev nD) (t : Fin cfg0.N) (o : Fin 3456) :
    iblk m c 3 t (ix2 0 o) = m ((c : Thread nD τ).loc main_arg3) (ix1 o) := by
  blk_point [iblk, V, idx t]

/-- Entry `(r, o)` of the product, from the arguments. -/
def product (c : Dev nD) (r : Fin 8192) (o : Fin 3456) : EReal :=
  Cert.Scale.dotOf (tok m c r) (fun k => m ((c : Thread nD τ).loc main_arg1) (ix2 o k))
    (fun g => m ((c : Thread nD τ).loc main_arg2) (ix2 ⟨o.val / 128, by omega⟩ g)) (m ((c : Thread nD τ).loc main_arg3) (ix1 o))

theorem out4_eq (x0 : Vec Ideal S8192x5120 .bf16) (x1 : Vec Ideal S3456x5120 .fp8e4m3) (x2 : Vec Ideal S27x40 .f32) (x3 : Vec Ideal S1x3456 .f32) :
    out0_4 x0 x1 x2 x3 = k0_pay1 (k0_pay3 x0) (k0_pay6 x0) (k0_pay7 x1) x2 x3 := by
  frame_out

theorem out5_eq (x0 : Vec Ideal S8192x5120 .bf16) (x1 : Vec Ideal S3456x5120 .fp8e4m3) (x2 : Vec Ideal S27x40 .f32) (x3 : Vec Ideal S1x3456 .f32) :
    out0_5 x0 x1 x2 x3 = k0_pay5 x0 := by
  frame_out

theorem out6_eq (x0 : Vec Ideal S8192x5120 .bf16) (x1 : Vec Ideal S3456x5120 .fp8e4m3) (x2 : Vec Ideal S27x40 .f32) (x3 : Vec Ideal S1x3456 .f32) :
    out0_6 x0 x1 x2 x3 = k0_pay3 x0 := by
  frame_out

/-- What the one point leaves of the first result. -/
theorem point_y (c : Dev nD) (t : Fin cfg0.N) (y : S8192x3456.Idx) (R : Fin 8192) (L : Fin 3456)
    (hR : R.val = (y 0).val) (hL : L.val = (y 1).val) :
    out0_4 (iblk m c 0 t) (iblk m c 1 t) (iblk m c 2 t) (iblk m c 3 t) y = product m c R L := by
  obtain rfl : L = y 1 := Fin.ext hL
  obtain rfl : R = y 0 := Fin.ext hR
  rw [out4_eq, eq_ix2 y]
  refine (pay1_at (iblk m c 0 t) (iblk m c 1 t) (iblk m c 2 t) (iblk m c 3 t) (y 0) (y 1)).trans ?_
  unfold product Cert.Scale.dotOf
  refine congrArg₂ (· + ·) (Finset.sum_congr rfl fun g _ => ?_) (bias_block m c t (y 1))
  rw [tok_block m c t (y 0) g]
  exact congrArg₂ (· * ·) (congrArg (· * _) (Finset.sum_congr rfl fun k _ => congrArg (_ * ·) (weight_block m c t (y 1) _)))
    (wscale_block m c t ⟨(y 1).val / 128, by have : (y 1).val < 3456 := (y 1).isLt; omega⟩ g)

/-- What the one point leaves of the second result. -/
theorem point_codes (c : Dev nD) (t : Fin cfg0.N) (y : S8192x5120.Idx) (R : Fin 8192) (L : Fin 5120)
    (hR : R.val = (y 0).val) (hL : L.val = (y 1).val) :
    out0_5 (iblk m c 0 t) (iblk m c 1 t) (iblk m c 2 t) (iblk m c 3 t) y = Cert.Scale.codeOf (tok m c R) L := by
  obtain rfl : L = y 1 := Fin.ext hL
  obtain rfl : R = y 0 := Fin.ext hR
  rw [out5_eq, eq_ix2 y]
  refine (pay5_at (iblk m c 0 t) (y 0) (y 1)).trans ?_
  rw [tok_block m c t (y 0) _]
  rfl

/-- What the one point leaves of the third result. -/
theorem point_scales (c : Dev nD) (t : Fin cfg0.N) (y : S8192x40.Idx) (R : Fin 8192) (L : Fin 40)
    (hR : R.val = (y 0).val) (hL : L.val = (y 1).val) :
    out0_6 (iblk m c 0 t) (iblk m c 1 t) (iblk m c 2 t) (iblk m c 3 t) y = Cert.Scale.scaleOf (tok m c R) L := by
  obtain rfl : L = y 1 := Fin.ext hL
  obtain rfl : R = y 0 := Fin.ext hR
  rw [out6_eq, eq_ix2 y]
  exact (pay3_at (iblk m c 0 t) (y 0) (y 1)).trans (congrArg Cert.Scale.gScale (tok_block m c t (y 0) (y 1)))

/-- The first result of the reference. -/
theorem final_y (c : Dev nD) : (dats m 0 c).arrAt 4 cfg0.N = fun y => product m c (y 0) (y 1) := by
  refine (dats m 0 c).arrAt_eq_of_covers 4 _ (by decide +kernel) fun t _ y => ?_
  blk_simp
  rw [after0_4]
  refine point_y m c t y _ _ ?_ ?_
  · blk_simp
    simp [idx t]
  · blk_simp
    simp [idx t]

/-- The second result of the reference. -/
theorem final_codes (c : Dev nD) : (dats m 0 c).arrAt 5 cfg0.N = fun y => Cert.Scale.codeOf (tok m c (y 0)) (y 1) := by
  refine (dats m 0 c).arrAt_eq_of_covers 5 _ (by decide +kernel) fun t _ y => ?_
  blk_simp
  rw [after0_5]
  refine point_codes m c t y _ _ ?_ ?_
  · blk_simp
    simp [idx t]
  · blk_simp
    simp [idx t]

/-- The third result of the reference. -/
theorem final_scales (c : Dev nD) : (dats m 0 c).arrAt 6 cfg0.N = fun y => Cert.Scale.scaleOf (tok m c (y 0)) (y 1) := by
  refine (dats m 0 c).arrAt_eq_of_covers 6 _ (by decide +kernel) fun t _ y => ?_
  blk_simp
  rw [after0_6]
  refine point_scales m c t y _ _ ?_ ?_
  · blk_simp
    simp [idx t]
  · blk_simp
    simp [idx t]

end Cert.ReferenceIdeal.KV

end
-- ==== Proof.lean ====
module

public import proofs.«01_k».proof.Defs
public import proofs.«01_k».proof.Proof.Gen.Kernel.Frame
public import proofs.«01_k».proof.Proof.KernelArrays
public import proofs.«01_k».proof.Proof.RefArrays
public import Idealize.ShloMosaic.Lib.Claim

@[expose] public section

set_option maxRecDepth 16384

noncomputable section

namespace Cert.Proof

open Idealize.ShloMosaic Idealize.SL.Sem

/-- The shape fact the precondition states. -/
theorem pre_facts : Cert.Pre_in_range.Facts where
  bcast_S_S1x8192x5120 := by decide +kernel

/-- The precondition read at an entry: no entry of the activations is larger in magnitude than the largest finite bf16. -/
theorem finite [Cert.Pre_in_range.Facts] (m : (ℓ : Loc Cert.KernelIdeal.nD Cert.KernelIdeal.τ Cert.KernelIdeal.sig) → Buf (Elt Ideal) ℓ)
    (h : Cert.Pre_KernelIdeal_in_range m) (c : Dev Cert.KernelIdeal.nD) (r : Fin 8192) : Cert.Scale.Finite (Cert.KernelIdeal.KV.tok m c r) := by
  intro l
  have hc := congrFun (h c) (ix3 0 r l)
  unfold Cert.KernelIdeal.KV.tok
  generalize m ((c.tc : Thread Cert.KernelIdeal.nD Cert.KernelIdeal.τ).loc Cert.KernelIdeal.main_arg0) = x at hc ⊢
  revert hc
  pointwise [Cert.Pre_in_range.fn]
  intro hc
  by_contra hn
  have hd : decide (FloatOps.absf (F := Ideal) (φ := .bf16) (x (ix3 0 r l)) ≤ Ideal.ofBits .bf16 32639#16) = false := decide_eq_false hn
  rw [hd] at hc
  exact absurd hc (by decide)

/-- Arguments that agree have the same tokens, -/
theorem tok_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.KV.tok m' c = Cert.KernelIdeal.KV.tok m c :=
  funext fun r => funext fun l => congrFun h (ix3 0 r l)

/-- and the same product. -/
theorem product_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) (r : Fin 8192) (o : Fin 3456) :
    Cert.ReferenceIdeal.KV.product m' c r o = Cert.KernelIdeal.KV.product m c r o :=
  show Cert.Scale.dotOf _ _ _ _ = Cert.Scale.dotOf _ _ _ _ from
  congr (congr (congr (congrArg Cert.Scale.dotOf (congrFun (tok_agree m m' c h0) r)) (funext fun k => congrFun h1 (ix2 o k)))
    (funext fun g => congrFun h2 (ix2 ⟨o.val / 128, by omega⟩ g))) (congrFun h3 (ix1 o))

/-- The kernel and the reference, over the reals: all three results are equal. -/
theorem algebraic [Cert.Pre_in_range.Facts] : Cert.algebraic_KernelIdeal_ReferenceIdeal_pre_in_range := by
  pair_intro
  · run_from Cert.KernelIdeal.Gen.run_main m g
  · run_from Cert.ReferenceIdeal.Gen.run_main m' g'
    · refine (Cert.ReferenceIdeal.KV.final_y m' c).trans (Eq.trans ?_ (Cert.KernelIdeal.KV.final_y m c (finite m hpre c)).symm)
      exact funext fun y => product_agree m m' c (hagree c).1 (hagree c).2.1 (hagree c).2.2.1 (hagree c).2.2.2 (y 0) (y 1)
    · refine (Cert.ReferenceIdeal.KV.final_codes m' c).trans (Eq.trans ?_ (Cert.KernelIdeal.KV.final_codes m c (finite m hpre c)).symm)
      exact funext fun y => congrArg (Cert.Scale.codeOf · (y 1)) (congrFun (tok_agree m m' c (hagree c).1) (y 0))
    · refine (Cert.ReferenceIdeal.KV.final_scales m' c).trans (Eq.trans ?_ (Cert.KernelIdeal.KV.final_scales m c (finite m hpre c)).symm)
      exact funext fun y => congrArg (Cert.Scale.scaleOf · (y 1)) (congrFun (tok_agree m m' c (hagree c).1) (y 0))

/-- The claim. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial,
    have := pre_facts; algebraic⟩

end Cert.Proof

end
